-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_half_width" .f32 0x3A888889#32 ((1 / 960 : ℝ) : EReal)
  ∧ IdealRules.named_const.Statement Cert.KernelIdeal.κ "norm7" .f32 0x3EAF1424#32 (((6 / 7) * (Real.sqrt (2 * Real.pi))⁻¹ : ℝ) : EReal)
  ∧ IdealRules.named_const.Statement Cert.KernelIdeal.κ "norm6" .f32 0x3ECC422A#32 ((1 * (Real.sqrt (2 * Real.pi))⁻¹ : ℝ) : EReal)
  ∧ IdealRules.named_const.Statement Cert.KernelIdeal.κ "norm5" .f32 0x3EF51C32#32 (((6 / 5) * (Real.sqrt (2 * Real.pi))⁻¹ : ℝ) : EReal)
  ∧ IdealRules.named_const.Statement Cert.KernelIdeal.κ "norm4" .f32 0x3F19319F#32 (((3 / 2) * (Real.sqrt (2 * Real.pi))⁻¹ : ℝ) : EReal)
  ∧ IdealRules.named_const.Statement Cert.KernelIdeal.κ "norm3" .f32 0x3F4C422A#32 ((2 * (Real.sqrt (2 * Real.pi))⁻¹ : ℝ) : EReal)
  ∧ IdealRules.named_const.Statement Cert.KernelIdeal.κ "norm2" .f32 0x3F99319F#32 ((3 * (Real.sqrt (2 * Real.pi))⁻¹ : ℝ) : EReal)
  ∧ IdealRules.named_const.Statement Cert.KernelIdeal.κ "expo7_1" .f32 0xBEBC14E6#32 ((-18 / 49 : ℝ) : EReal)
  ∧ IdealRules.named_const.Statement Cert.KernelIdeal.κ "expo5_1" .f32 0xBF3851EC#32 ((-18 / 25 : ℝ) : EReal)
  ∧ IdealRules.named_const.Statement Cert.KernelIdeal.κ "expo7_2" .f32 0xBFBC14E6#32 ((-72 / 49 : ℝ) : EReal)
  ∧ IdealRules.named_const.Statement Cert.KernelIdeal.κ "expo5_2" .f32 0xC03851EC#32 ((-72 / 25 : ℝ) : EReal)
  ∧ IdealRules.named_const.Statement Cert.KernelIdeal.κ "expo7_3" .f32 0xC0539783#32 ((-162 / 49 : ℝ) : EReal)

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S1080x1920x3 : Shape := ⟨3, ![1080, 1920, 3]⟩
abbrev S1080x1920 : Shape := ⟨2, ![1080, 1920]⟩
abbrev S3 : Shape := ⟨1, ![3]⟩
abbrev S_ : Shape := ⟨0, ![]⟩

class Facts : Prop where
  bcast_S_S1080x1920 : S_.BroadcastsInDim S1080x1920 (![] : Fin 0 → Fin S1080x1920.rank)
  reducesTo_S1080x1920_S_d0_1 : S1080x1920.ReducesTo [0, 1] S_
  h_S_ : 0 < S_.numel
  bcast_S_S1080x1920x3 : S_.BroadcastsInDim S1080x1920x3 (![] : Fin 0 → Fin S1080x1920x3.rank)
  reducesTo_S1080x1920x3_S_d0_1_2 : S1080x1920x3.ReducesTo [0, 1, 2] S_
  bcast_S_S3 : S_.BroadcastsInDim S3 (![] : Fin 0 → Fin S3.rank)
  reducesTo_S3_S_d0 : S3.ReducesTo [0] S_

variable [Facts]

def fn_part1 {F : FTy → Type} [FloatOps F] (main_v14 : IVec S_ 1) (main_v15 : FVec F S_ .f32) (main_cst_5 : FVec F S_ .f32) : IVec S_ 1 :=
  let main_v16 : IVec S_ 1 := cmpf .olt main_v15 main_cst_5
  let main_v17 : IVec S_ 1 := andi main_v14 main_v16
  main_v17

def fn {F : FTy → Type} [FloatOps F] (main_arg0 : FVec F S1080x1920x3 .f32) (main_arg1 : IVec S1080x1920 32) (main_arg2 : FVec F S1080x1920x3 .f32) (main_arg3 : FVec F S3 .f32) (main_arg4 : FVec F S_ .f32) (main_arg5 : FVec F S_ .f32) (main_arg6 : FVec F S3 .f32) (main_arg7 : FVec F S3 .f32) (main_arg8 : FVec F S3 .f32) (main_arg9 : FVec F S3 .f32) (main_arg10 : FVec F S3 .f32) (main_arg11 : FVec F S_ .f32) : IVec S_ 1 :=
  let main_c : IVec S_ 32 := constantI S_ 32 7#32
  let main_v0 : IVec S1080x1920 32 := broadcastInDim S1080x1920 ![] bcast_S_S1080x1920 main_c
  let main_v1 : IVec S1080x1920 1 := cmpi .sle main_arg1 main_v0
  let main_c_0 : IVec S_ 1 := constantI S_ 1 1#1
  let main_v2 : IVec S_ 1 := (fun x v => Host.reduce IntOp.andi x v reducesTo_S1080x1920_S_d0_1 h_S_) main_v1 main_c_0
  let main_cst : FVec F S_ .f32 := constant S_ .f32 0x00000000#32
  let main_v3 : IVec S_ 1 := cmpf .oge main_arg4 main_cst
  let main_v4 : IVec S_ 1 := andi main_v2 main_v3
  let main_v5 : FVec F S1080x1920x3 .f32 := Host.absf main_arg0
  let main_cst_1 : FVec F S_ .f32 := constant S_ .f32 0x7F800000#32
  let main_v6 : FVec F S1080x1920x3 .f32 := broadcastInDim S1080x1920x3 ![] bcast_S_S1080x1920x3 main_cst_1
  let main_v7 : IVec S1080x1920x3 1 := cmpf .olt main_v5 main_v6
  let main_c_2 : IVec S_ 1 := constantI S_ 1 1#1
  let main_v8 : IVec S_ 1 := (fun x v => Host.reduce IntOp.andi x v reducesTo_S1080x1920x3_S_d0_1_2 h_S_) main_v7 main_c_2
  let main_v9 : IVec S_ 1 := andi main_v4 main_v8
  let main_v10 : FVec F S3 .f32 := Host.absf main_arg3
  let main_cst_3 : FVec F S_ .f32 := constant S_ .f32 0x7F800000#32
  let main_v11 : FVec F S3 .f32 := broadcastInDim S3 ![] bcast_S_S3 main_cst_3
  let main_v12 : IVec S3 1 := cmpf .olt main_v10 main_v11
  let main_c_4 : IVec S_ 1 := constantI S_ 1 1#1
  let main_v13 : IVec S_ 1 := (fun x v => Host.reduce IntOp.andi x v reducesTo_S3_S_d0 h_S_) main_v12 main_c_4
  let main_v14 : IVec S_ 1 := andi main_v9 main_v13
  let main_v15 : FVec F S_ .f32 := Host.absf main_arg5
  let main_cst_5 : FVec F S_ .f32 := constant S_ .f32 0x7F800000#32
  fn_part1 (F := F) main_v14 main_v15 main_cst_5
-- ==== Kernel.lean ====
abbrev S1080x1920x3 : Shape := ⟨3, ![1080, 1920, 3]⟩
abbrev S1080x1920 : Shape := ⟨2, ![1080, 1920]⟩
abbrev S3 : Shape := ⟨1, ![3]⟩
abbrev S_ : Shape := ⟨0, ![]⟩
abbrev S1080x5760 : Shape := ⟨2, ![1080, 5760]⟩
abbrev S1920 : Shape := ⟨1, ![1920]⟩
abbrev S1920x3 : Shape := ⟨2, ![1920, 3]⟩
abbrev S5760 : Shape := ⟨1, ![5760]⟩
abbrev S1x3 : Shape := ⟨2, ![1, 3]⟩
abbrev S1x5760 : Shape := ⟨2, ![1, 5760]⟩
abbrev S7x5760 : Shape := ⟨2, ![7, 5760]⟩
abbrev S7x1x5760 : Shape := ⟨3, ![7, 1, 5760]⟩
abbrev S7x8x5760 : Shape := ⟨3, ![7, 8, 5760]⟩
abbrev S1 : Shape := ⟨1, ![1]⟩
abbrev S72x5760 : Shape := ⟨2, ![72, 5760]⟩
abbrev S8x5760 : Shape := ⟨2, ![8, 5760]⟩
abbrev S1x8x5760 : Shape := ⟨3, ![1, 8, 5760]⟩
abbrev S88x5760 : Shape := ⟨2, ![88, 5760]⟩
abbrev S11x8x5760 : Shape := ⟨3, ![11, 8, 5760]⟩
abbrev S9x8x5760 : Shape := ⟨3, ![9, 8, 5760]⟩

abbrev nBuf : Space → Nat
  | .hbm => 62
  | .vmem => 17
  | .smem => 1
  | _ => 0

abbrev bufTy : (tb : Table) → Fin (tcTables nBuf tb) → BufTy
  | .hbm, ⟨0, _⟩ => ⟨S1080x1920x3, .f32⟩
  | .hbm, ⟨1, _⟩ => ⟨S1080x1920, .i32⟩
  | .hbm, ⟨2, _⟩ => ⟨S1080x1920x3, .f32⟩
  | .hbm, ⟨3, _⟩ => ⟨S3, .f32⟩
  | .hbm, ⟨4, _⟩ => ⟨S_, .f32⟩
  | .hbm, ⟨5, _⟩ => ⟨S_, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S3, .f32⟩
  | .hbm, ⟨10, _⟩ => ⟨S3, .f32⟩
  | .hbm, ⟨11, _⟩ => ⟨S_, .f32⟩
  | .hbm, ⟨12, _⟩ => ⟨S1080x5760, .f32⟩
  | .hbm, ⟨13, _⟩ => ⟨S1080x5760, .f32⟩
  | .hbm, ⟨14, _⟩ => ⟨S1080x1920, .f32⟩
  | .hbm, ⟨15, _⟩ => ⟨S1080x1920x3, .f32⟩
  | .hbm, ⟨16, _⟩ => ⟨S1080x5760, .f32⟩
  | .hbm, ⟨17, _⟩ => ⟨S1920, .f32⟩
  | .hbm, ⟨18, _⟩ => ⟨S_, .f32⟩
  | .hbm, ⟨19, _⟩ => ⟨S1920, .f32⟩
  | .hbm, ⟨20, _⟩ => ⟨S1920, .f32⟩
  | .hbm, ⟨21, _⟩ => ⟨S_, .f32⟩
  | .hbm, ⟨22, _⟩ => ⟨S1920, .f32⟩
  | .hbm, ⟨23, _⟩ => ⟨S1920, .f32⟩
  | .hbm, ⟨24, _⟩ => ⟨S1920, .f32⟩
  | .hbm, ⟨25, _⟩ => ⟨S1920x3, .f32⟩
  | .hbm, ⟨26, _⟩ => ⟨S5760, .f32⟩
  | .hbm, ⟨27, _⟩ => ⟨S1x3, .f32⟩
  | .hbm, ⟨28, _⟩ => ⟨S1920x3, .f32⟩
  | .hbm, ⟨29, _⟩ => ⟨S5760, .f32⟩
  | .hbm, ⟨30, _⟩ => ⟨S1x3, .f32⟩
  | .hbm, ⟨31, _⟩ => ⟨S1920x3, .f32⟩
  | .hbm, ⟨32, _⟩ => ⟨S5760, .f32⟩
  | .hbm, ⟨33, _⟩ => ⟨S1x3, .f32⟩
  | .hbm, ⟨34, _⟩ => ⟨S1920x3, .f32⟩
  | .hbm, ⟨35, _⟩ => ⟨S5760, .f32⟩
  | .hbm, ⟨36, _⟩ => ⟨S1x3, .f32⟩
  | .hbm, ⟨37, _⟩ => ⟨S1920x3, .f32⟩
  | .hbm, ⟨38, _⟩ => ⟨S5760, .f32⟩
  | .hbm, ⟨39, _⟩ => ⟨S1x3, .f32⟩
  | .hbm, ⟨40, _⟩ => ⟨S1920x3, .f32⟩
  | .hbm, ⟨41, _⟩ => ⟨S5760, .f32⟩
  | .hbm, ⟨42, _⟩ => ⟨S1x3, .f32⟩
  | .hbm, ⟨43, _⟩ => ⟨S1920x3, .f32⟩
  | .hbm, ⟨44, _⟩ => ⟨S5760, .f32⟩
  | .hbm, ⟨45, _⟩ => ⟨S1x5760, .f32⟩
  | .hbm, ⟨46, _⟩ => ⟨S1x5760, .f32⟩
  | .hbm, ⟨47, _⟩ => ⟨S1x5760, .f32⟩
  | .hbm, ⟨48, _⟩ => ⟨S1x5760, .f32⟩
  | .hbm, ⟨49, _⟩ => ⟨S1x5760, .f32⟩
  | .hbm, ⟨50, _⟩ => ⟨S1x5760, .f32⟩
  | .hbm, ⟨51, _⟩ => ⟨S1x5760, .f32⟩
  | .hbm, ⟨52, _⟩ => ⟨S7x5760, .f32⟩
  | .hbm, ⟨53, _⟩ => ⟨S7x1x5760, .f32⟩
  | .hbm, ⟨54, _⟩ => ⟨S7x8x5760, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S1, .f32⟩
  | .hbm, ⟨60, _⟩ => ⟨S3, .f32⟩
  | .hbm, ⟨61, _⟩ => ⟨S1080x5760, .f32⟩
  | .local _ .vmem, ⟨0, _⟩ => ⟨S7x8x5760, .f32⟩
  | .local _ .vmem, ⟨1, _⟩ => ⟨S72x5760, .f32⟩
  | .local _ .vmem, ⟨2, _⟩ => ⟨S72x5760, .f32⟩
  | .local _ .vmem, ⟨3, _⟩ => ⟨S8x5760, .f32⟩
  | .local _ .vmem, ⟨4, _⟩ => ⟨S8x5760, .f32⟩
  | .local _ .vmem, ⟨5, _⟩ => ⟨S8x5760, .f32⟩
  | .local _ .vmem, ⟨6, _⟩ => ⟨S8x5760, .f32⟩
  | .local _ .vmem, ⟨7, _⟩ => ⟨S72x5760, .f32⟩
  | .local _ .vmem, ⟨8, _⟩ => ⟨S72x5760, .f32⟩
  | .local _ .vmem, ⟨9, _⟩ => ⟨S8x5760, .f32⟩
  | .local _ .vmem, ⟨10, _⟩ => ⟨S8x5760, .f32⟩
  | .local _ .vmem, ⟨11, _⟩ => ⟨S8x5760, .f32⟩
  | .local _ .vmem, ⟨12, _⟩ => ⟨S8x5760, .f32⟩
  | .local _ .vmem, ⟨13, _⟩ => ⟨S72x5760, .f32⟩
  | .local _ .vmem, ⟨14, _⟩ => ⟨S72x5760, .f32⟩
  | .local _ .vmem, ⟨15, _⟩ => ⟨S72x5760, .f32⟩
  | .local _ .vmem, ⟨16, _⟩ => ⟨S72x5760, .f32⟩
  | .local _ .smem, ⟨0, _⟩ => ⟨S3, .f32⟩
  | _, _ => ⟨S1080x1920x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_1 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![15], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let v0 : BitVec 32 := Scalar.muli arg0 c9_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c9_i32 : BitVec 32 := 9#32
  let v1 : BitVec 32 := Scalar.muli v0 c9_i32
  let c134_i32 : BitVec 32 := 134#32
  let v2 : BitVec 32 := Scalar.minsi v1 c134_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c9_i32 : BitVec 32 := 9#32
  let v0 : BitVec 32 := Scalar.muli arg0 c9_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c9_i32 : BitVec 32 := 9#32
  let v1 : BitVec 32 := Scalar.muli v0 c9_i32
  let c134_i32 : BitVec 32 := 134#32
  let v2 : BitVec 32 := Scalar.minsi v1 c134_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x8x5760 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S72x5760 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x5760 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x5760 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S72x5760 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x5760 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x5760 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S72x5760 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S72x5760 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "expo5_1" => some ((-18 / 25 : ℝ) : EReal)
  | "expo5_2" => some ((-72 / 25 : ℝ) : EReal)
  | "expo7_1" => some ((-18 / 49 : ℝ) : EReal)
  | "expo7_2" => some ((-72 / 49 : ℝ) : EReal)
  | "expo7_3" => some ((-162 / 49 : ℝ) : EReal)
  | "inv_half_width" => some ((1 / 960 : ℝ) : EReal)
  | "norm2" => some ((3 * (Real.sqrt (2 * Real.pi))⁻¹ : ℝ) : EReal)
  | "norm3" => some ((2 * (Real.sqrt (2 * Real.pi))⁻¹ : ℝ) : EReal)
  | "norm4" => some (((3 / 2) * (Real.sqrt (2 * Real.pi))⁻¹ : ℝ) : EReal)
  | "norm5" => some (((6 / 5) * (Real.sqrt (2 * Real.pi))⁻¹ : ℝ) : EReal)
  | "norm6" => some ((1 * (Real.sqrt (2 * Real.pi))⁻¹ : ℝ) : EReal)
  | "norm7" => some (((6 / 7) * (Real.sqrt (2 * Real.pi))⁻¹ : ℝ) : EReal)
  | _ => none
-- ==== ReferenceIdeal.lean ====
abbrev S1080x1920x3 : Shape := ⟨3, ![1080, 1920, 3]⟩
abbrev S1080x1920 : Shape := ⟨2, ![1080, 1920]⟩
abbrev S3 : Shape := ⟨1, ![3]⟩
abbrev S_ : Shape := ⟨0, ![]⟩
abbrev S1x1x3 : Shape := ⟨3, ![1, 1, 3]⟩
abbrev S1080 : Shape := ⟨1, ![1080]⟩
abbrev S1920 : Shape := ⟨1, ![1920]⟩
abbrev S1080x1 : Shape := ⟨2, ![1080, 1]⟩
abbrev S1x1920 : Shape := ⟨2, ![1, 1920]⟩
abbrev S1080x1920x1 : Shape := ⟨3, ![1080, 1920, 1]⟩
abbrev S7 : Shape := ⟨1, ![7]⟩
abbrev S7x1x1x1 : Shape := ⟨4, ![7, 1, 1, 1]⟩
abbrev S1x7x1x1 : Shape := ⟨4, ![1, 7, 1, 1]⟩
abbrev S1x1x1080x1 : Shape := ⟨4, ![1, 1, 1080, 1]⟩
abbrev S1x1x1x1920 : Shape := ⟨4, ![1, 1, 1, 1920]⟩
abbrev S7x1x1080x1 : Shape := ⟨4, ![7, 1, 1080, 1]⟩
abbrev S1x7x1x1920 : Shape := ⟨4, ![1, 7, 1, 1920]⟩
abbrev S1x1x1080x1920 : Shape := ⟨4, ![1, 1, 1080, 1920]⟩
abbrev S7x1x1080x1920 : Shape := ⟨4, ![7, 1, 1080, 1920]⟩
abbrev S1x7x1080x1920 : Shape := ⟨4, ![1, 7, 1080, 1920]⟩
abbrev S7x7x1080x1920 : Shape := ⟨4, ![7, 7, 1080, 1920]⟩
abbrev S7x7x1x1 : Shape := ⟨4, ![7, 7, 1, 1]⟩
abbrev S7x7x1080x1920x1 : Shape := ⟨5, ![7, 7, 1080, 1920, 1]⟩
abbrev S1x1x1080x1920x3 : Shape := ⟨5, ![1, 1, 1080, 1920, 3]⟩
abbrev S7x7x1080x1920x3 : Shape := ⟨5, ![7, 7, 1080, 1920, 3]⟩
abbrev S7x7x1080x1920x2 : Shape := ⟨5, ![7, 7, 1080, 1920, 2]⟩
abbrev S1080x5760 : Shape := ⟨2, ![1080, 5760]⟩

abbrev nBuf : Space → Nat
  | .hbm => 263
  | .vmem => 0
  | .smem => 0
  | _ => 0

abbrev hbmTy0_0 (i : Nat) : BufTy := match i % 128 with
  | 0 => ⟨S1080x1920x3, .f32⟩
  | 1 => ⟨S1080x1920, .i32⟩
  | 2 => ⟨S1080x1920x3, .f32⟩
  | 3 => ⟨S3, .f32⟩
  | 4 => ⟨S_, .f32⟩
  | 5 => ⟨S_, .f32⟩
  | 6 => ⟨S3, .f32⟩
  | 7 => ⟨S3, .f32⟩
  | 8 => ⟨S3, .f32⟩
  | 9 => ⟨S3, .f32⟩
  | 10 => ⟨S3, .f32⟩
  | 11 => ⟨S_, .f32⟩
  | 12 => ⟨S1x1x3, .f32⟩
  | 13 => ⟨S1080x1920x3, .f32⟩
  | 14 => ⟨S1080x1920x3, .f32⟩
  | 15 => ⟨S1080, .f32⟩
  | 16 => ⟨S_, .f32⟩
  | 17 => ⟨S1080, .f32⟩
  | 18 => ⟨S1080, .f32⟩
  | 19 => ⟨S_, .f32⟩
  | 20 => ⟨S1080, .f32⟩
  | 21 => ⟨S1080, .f32⟩
  | 22 => ⟨S1920, .f32⟩
  | 23 => ⟨S_, .f32⟩
  | 24 => ⟨S1920, .f32⟩
  | 25 => ⟨S1920, .f32⟩
  | 26 => ⟨S_, .f32⟩
  | 27 => ⟨S1920, .f32⟩
  | 28 => ⟨S1920, .f32⟩
  | 29 => ⟨S1080x1, .f32⟩
  | 30 => ⟨S1080x1, .f32⟩
  | 31 => ⟨S1x1920, .f32⟩
  | 32 => ⟨S1x1920, .f32⟩
  | 33 => ⟨S1080x1920, .f32⟩
  | 34 => ⟨S1080x1920, .f32⟩
  | 35 => ⟨S1080x1920, .f32⟩
  | 36 => ⟨S1080x1920, .f32⟩
  | 37 => ⟨S1080x1920, .f32⟩
  | 38 => ⟨S_, .f32⟩
  | 39 => ⟨S1080x1920, .f32⟩
  | 40 => ⟨S1080x1920, .f32⟩
  | 41 => ⟨S1080x1920, .f32⟩
  | 42 => ⟨S_, .f32⟩
  | 43 => ⟨S1080x1920, .f32⟩
  | 44 => ⟨S1080x1920, .f32⟩
  | 45 => ⟨S1080x1920x1, .f32⟩
  | 46 => ⟨S1080x1920x3, .f32⟩
  | 47 => ⟨S1080x1920x3, .f32⟩
  | 48 => ⟨S7, .i32⟩
  | 49 => ⟨S_, .i32⟩
  | 50 => ⟨S7, .i32⟩
  | 51 => ⟨S7, .i32⟩
  | 52 => ⟨S7x1x1x1, .i32⟩
  | 53 => ⟨S7, .i32⟩
  | 54 => ⟨S_, .i32⟩
  | 55 => ⟨S7, .i32⟩
  | 56 => ⟨S7, .i32⟩
  | 57 => ⟨S1x7x1x1, .i32⟩
  | 58 => ⟨S1080, .i32⟩
  | 59 => ⟨S1x1x1080x1, .i32⟩
  | 60 => ⟨S1920, .i32⟩
  | 61 => ⟨S1x1x1x1920, .i32⟩
  | 62 => ⟨S1080x1920, .f32⟩
  | 63 => ⟨S_, .f32⟩
  | 64 => ⟨S1080x1920, .f32⟩
  | 65 => ⟨S1080x1920, .f32⟩
  | 66 => ⟨S_, .f32⟩
  | 67 => ⟨S1080x1920, .f32⟩
  | 68 => ⟨S1080x1920, .f32⟩
  | 69 => ⟨S_, .i32⟩
  | 70 => ⟨S_, .i32⟩
  | 71 => ⟨S1080x1920, .i32⟩
  | 72 => ⟨S1080x1920, .i32⟩
  | 73 => ⟨S1080x1920, .i32⟩
  | 74 => ⟨S_, .i32⟩
  | 75 => ⟨S1080x1920, .i32⟩
  | 76 => ⟨S1080x1920, .i1⟩
  | 77 => ⟨S1080x1920, .i32⟩
  | 78 => ⟨S1080x1920, .i32⟩
  | 79 => ⟨S_, .i32⟩
  | 80 => ⟨S1080x1920, .i32⟩
  | 81 => ⟨S1080x1920, .i1⟩
  | 82 => ⟨S1080x1920, .i1⟩
  | 83 => ⟨S_, .i32⟩
  | 84 => ⟨S1080x1920, .i32⟩
  | 85 => ⟨S1080x1920, .i32⟩
  | 86 => ⟨S1080x1920, .i32⟩
  | 87 => ⟨S_, .i32⟩
  | 88 => ⟨S1080x1920, .i32⟩
  | 89 => ⟨S1080x1920, .i1⟩
  | 90 => ⟨S1080x1920, .f32⟩
  | 91 => ⟨S_, .f32⟩
  | 92 => ⟨S1080x1920, .f32⟩
  | 93 => ⟨S1080x1920, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S1080x1920, .f32⟩
  | 101 => ⟨S1080x1920, .f32⟩
  | 102 => ⟨S1080x1920, .f32⟩
  | 103 => ⟨S_, .f32⟩
  | 104 => ⟨S1080x1920, .f32⟩
  | 105 => ⟨S1080x1920, .f32⟩
  | 106 => ⟨S7x1x1080x1, .i32⟩
  | 107 => ⟨S7x1x1080x1, .i32⟩
  | 108 => ⟨S7x1x1080x1, .i32⟩
  | 109 => ⟨S1x7x1x1920, .i32⟩
  | 110 => ⟨S1x7x1x1920, .i32⟩
  | 111 => ⟨S1x7x1x1920, .i32⟩
  | 112 => ⟨S7x1x1x1, .i32⟩
  | 113 => ⟨S1x1x1080x1920, .i32⟩
  | 114 => ⟨S7x1x1080x1920, .i32⟩
  | 115 => ⟨S7x1x1080x1920, .i32⟩
  | 116 => ⟨S7x1x1080x1920, .i1⟩
  | 117 => ⟨S1x1x1080x1920, .i1⟩
  | 118 => ⟨S7x1x1080x1920, .i1⟩
  | 119 => ⟨S7x1x1080x1920, .i1⟩
  | 120 => ⟨S1x7x1x1, .i32⟩
  | 121 => ⟨S1x1x1080x1920, .i32⟩
  | 122 => ⟨S1x7x1080x1920, .i32⟩
  | 123 => ⟨S1x7x1080x1920, .i32⟩
  | 124 => ⟨S1x7x1080x1920, .i1⟩
  | 125 => ⟨S7x7x1080x1920, .i1⟩
  | 126 => ⟨S7x7x1080x1920, .i1⟩
  | 127 => ⟨S7x7x1080x1920, .i1⟩
  | _ => ⟨S1080x1920x3, .f32⟩

abbrev hbmTy0_1 (i : Nat) : BufTy := match i % 128 with
  | 0 => ⟨S_, .i32⟩
  | 1 => ⟨S7x1x1080x1, .i32⟩
  | 2 => ⟨S7x1x1080x1, .i1⟩
  | 3 => ⟨S7x7x1080x1920, .i1⟩
  | 4 => ⟨S7x7x1080x1920, .i1⟩
  | 5 => ⟨S_, .i32⟩
  | 6 => ⟨S7x1x1080x1, .i32⟩
  | 7 => ⟨S7x1x1080x1, .i1⟩
  | 8 => ⟨S7x7x1080x1920, .i1⟩
  | 9 => ⟨S7x7x1080x1920, .i1⟩
  | 10 => ⟨S_, .i32⟩
  | 11 => ⟨S1x7x1x1920, .i32⟩
  | 12 => ⟨S1x7x1x1920, .i1⟩
  | 13 => ⟨S7x7x1080x1920, .i1⟩
  | 14 => ⟨S7x7x1080x1920, .i1⟩
  | 15 => ⟨S_, .i32⟩
  | 16 => ⟨S1x7x1x1920, .i32⟩
  | 17 => ⟨S1x7x1x1920, .i1⟩
  | 18 => ⟨S7x7x1080x1920, .i1⟩
  | 19 => ⟨S7x7x1080x1920, .i1⟩
  | 20 => ⟨S7x1x1x1, .i32⟩
  | 21 => ⟨S1x7x1x1, .i32⟩
  | 22 => ⟨S7x7x1x1, .i32⟩
  | 23 => ⟨S7x7x1x1, .i32⟩
  | 24 => ⟨S7x7x1x1, .i32⟩
  | 25 => ⟨S7x7x1x1, .f32⟩
  | 26 => ⟨S7x7x1x1, .f32⟩
  | 27 => ⟨S1x1x1080x1920, .f32⟩
  | 28 => ⟨S7x7x1080x1920, .f32⟩
  | 29 => ⟨S7x7x1080x1920, .f32⟩
  | 30 => ⟨S7x7x1080x1920, .f32⟩
  | 31 => ⟨S7x7x1080x1920, .f32⟩
  | 32 => ⟨S1x1x1080x1920, .f32⟩
  | 33 => ⟨S7x7x1080x1920, .f32⟩
  | 34 => ⟨S7x7x1080x1920, .f32⟩
  | 35 => ⟨S_, .f32⟩
  | 36 => ⟨S_, .f32⟩
  | 37 => ⟨S7x7x1080x1920, .f32⟩
  | 38 => ⟨S7x7x1080x1920, .f32⟩
  | 39 => ⟨S_, .i32⟩
  | 40 => ⟨S_, .i32⟩
  | 41 => ⟨S_, .i32⟩
  | 42 => ⟨S7x1x1080x1, .i32⟩
  | 43 => ⟨S7x1x1080x1, .i32⟩
  | 44 => ⟨S_, .i32⟩
  | 45 => ⟨S7x1x1080x1, .i32⟩
  | 46 => ⟨S7x1x1080x1, .i32⟩
  | 47 => ⟨S_, .i32⟩
  | 48 => ⟨S_, .i32⟩
  | 49 => ⟨S_, .i32⟩
  | 50 => ⟨S1x7x1x1920, .i32⟩
  | 51 => ⟨S1x7x1x1920, .i32⟩
  | 52 => ⟨S_, .i32⟩
  | 53 => ⟨S1x7x1x1920, .i32⟩
  | 54 => ⟨S1x7x1x1920, .i32⟩
  | 55 => ⟨S7x7x1080x1920, .i32⟩
  | 56 => ⟨S7x7x1080x1920, .i32⟩
  | 57 => ⟨S_, .f32⟩
  | 58 => ⟨S1080x1920x3, .f32⟩
  | 59 => ⟨S7x7x1080x1920x1, .f32⟩
  | 60 => ⟨S1x1x1080x1920x3, .f32⟩
  | 61 => ⟨S7x7x1080x1920x3, .f32⟩
  | 62 => ⟨S7x7x1080x1920x3, .f32⟩
  | 63 => ⟨S7x7x1080x1920x3, .f32⟩
  | 64 => ⟨S_, .i32⟩
  | 65 => ⟨S7x7x1080x1920, .i32⟩
  | 66 => ⟨S7x7x1080x1920, .i1⟩
  | 67 => ⟨S_, .i32⟩
  | 68 => ⟨S7x7x1080x1920, .i32⟩
  | 69 => ⟨S7x7x1080x1920, .i32⟩
  | 70 => ⟨S7x7x1080x1920, .i32⟩
  | 71 => ⟨S_, .i32⟩
  | 72 => ⟨S7x7x1080x1920, .i32⟩
  | 73 => ⟨S7x7x1080x1920, .i1⟩
  | 74 => ⟨S_, .i32⟩
  | 75 => ⟨S7x7x1080x1920, .i32⟩
  | 76 => ⟨S7x7x1080x1920, .i32⟩
  | 77 => ⟨S7x7x1080x1920, .i32⟩
  | 78 => ⟨S7x7x1080x1920x1, .i32⟩
  | 79 => ⟨S7x7x1080x1920x1, .i32⟩
  | 80 => ⟨S7x7x1080x1920x2, .i32⟩
  | 81 => ⟨S1080x1920x3, .f32⟩
  | 82 => ⟨S_, .f32⟩
  | 83 => ⟨S_, .f32⟩
  | 84 => ⟨S1080x1920, .f32⟩
  | 85 => ⟨S1080x1920, .f32⟩
  | 86 => ⟨S1080x1920, .f32⟩
  | 87 => ⟨S1080x1920x1, .f32⟩
  | 88 => ⟨S1080x1920x1, .f32⟩
  | 89 => ⟨S1080x1920x3, .f32⟩
  | 90 => ⟨S1080x1920x3, .f32⟩
  | 91 => ⟨S1080x1920x3, .f32⟩
  | 92 => ⟨S1080x1920x3, .f32⟩
  | 93 => ⟨S1080x1920x3, .f32⟩
  | 94 => ⟨S1x1x3, .f32⟩
  | 95 => ⟨S_, .f32⟩
  | 96 => ⟨S1080x1920x3, .f32⟩
  | 97 => ⟨S1080x1920x3, .f32⟩
  | 98 => ⟨S1080x1920x3, .f32⟩
  | 99 => ⟨S1080x1920x3, .f32⟩
  | 100 => ⟨S1080x1920x3, .f32⟩
  | 101 => ⟨S1080x1920x3, .f32⟩
  | 102 => ⟨S1x1x3, .f32⟩
  | 103 => ⟨S1080x1920x3, .f32⟩
  | 104 => ⟨S1080x1920x3, .f32⟩
  | 105 => ⟨S1x1x3, .f32⟩
  | 106 => ⟨S1080x1920x3, .f32⟩
  | 107 => ⟨S1080x1920x3, .f32⟩
  | 108 => ⟨S1080x1920x3, .f32⟩
  | 109 => ⟨S1080x1920x3, .f32⟩
  | 110 => ⟨S1x1x3, .f32⟩
  | 111 => ⟨S1080x1920x3, .f32⟩
  | 112 => ⟨S1080x1920x3, .f32⟩
  | 113 => ⟨S1x1x3, .f32⟩
  | 114 => ⟨S1080x1920x3, .f32⟩
  | 115 => ⟨S1080x1920x3, .f32⟩
  | 116 => ⟨S_, .f32⟩
  | 117 => ⟨S1080x1920x3, .f32⟩
  | 118 => ⟨S1080x1920x3, .f32⟩
  | 119 => ⟨S_, .f32⟩
  | 120 => ⟨S1080x1920x3, .f32⟩
  | 121 => ⟨S1080x1920x3, .f32⟩
  | 122 => ⟨S_, .f32⟩
  | 123 => ⟨S_, .f32⟩
  | 124 => ⟨S1080x1920x3, .f32⟩
  | 125 => ⟨S1080x1920x3, .f32⟩
  | 126 => ⟨S_, .f32⟩
  | 127 => ⟨S_, .f32⟩
  | _ => ⟨S1080x1920x3, .f32⟩

abbrev hbmTy0_2 (i : Nat) : BufTy := match i % 128 with
  | 0 => ⟨S_, .f32⟩
  | 1 => ⟨S1080x1920x3, .f32⟩
  | 2 => ⟨S1080x1920x3, .f32⟩
  | 3 => ⟨S_, .f32⟩
  | 4 => ⟨S1080x1920x3, .f32⟩
  | 5 => ⟨S1080x1920x3, .f32⟩
  | 6 => ⟨S1080x5760, .f32⟩
  | _ => ⟨S1080x1920x3, .f32⟩

abbrev hbmTy (i : Nat) : BufTy := match i / 128 with
  | 0 => hbmTy0_0 i
  | 1 => hbmTy0_1 i
  | 2 => hbmTy0_2 i
  | _ => ⟨S1080x1920x3, .f32⟩

abbrev bufTy : (tb : Table) → Fin (tcTables nBuf tb) → BufTy
  | .hbm, ⟨i, _⟩ => hbmTy i
  | _, _ => ⟨S1080x1920x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v47 : Ref sig .tc := ⟨.hbm, 86, rfl⟩
abbrev main_c_9 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_10 : Ref sig .tc := ⟨.hbm, 91, rfl⟩
abbrev main_v51 : Ref sig .tc := ⟨.hbm, 92, rfl⟩
abbrev main_v52 : Ref sig .tc := ⟨.hbm, 93, rfl⟩
abbrev main_cst_11 : Ref sig .tc := ⟨.hbm, 94, rfl⟩
abbrev main_v53 : Ref sig .tc := ⟨.hbm, 95, rfl⟩
abbrev main_cst_12 : Ref sig .tc := ⟨.hbm, 96, rfl⟩
abbrev main_v54 : Ref sig .tc := ⟨.hbm, 97, rfl⟩
abbrev main_cst_13 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_14 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c_15 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_c_16 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_c_17 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_18 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_19 : Ref sig .tc := ⟨.hbm, 163, rfl⟩
abbrev main_call1_v0 : Ref sig .tc := ⟨.hbm, 164, rfl⟩
abbrev main_call1_v1 : Ref sig .tc := ⟨.hbm, 165, rfl⟩
abbrev main_v114 : Ref sig .tc := ⟨.hbm, 166, rfl⟩
abbrev main_c_20 : Ref sig .tc := ⟨.hbm, 167, rfl⟩
abbrev main_c_21 : Ref sig .tc := ⟨.hbm, 168, rfl⟩
abbrev main_call2_v0 : Ref sig .tc := ⟨.hbm, 169, rfl⟩
abbrev main_call2_v1 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_v115 : Ref sig .tc := ⟨.hbm, 174, rfl⟩
abbrev main_c_22 : Ref sig .tc := ⟨.hbm, 175, rfl⟩
abbrev main_c_23 : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_cst_24 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_c_25 : Ref sig .tc := ⟨.hbm, 192, rfl⟩
abbrev main_v125 : Ref sig .tc := ⟨.hbm, 193, rfl⟩
abbrev main_v126 : Ref sig .tc := ⟨.hbm, 194, rfl⟩
abbrev main_c_26 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_c_27 : Ref sig .tc := ⟨.hbm, 199, rfl⟩
abbrev main_v130 : Ref sig .tc := ⟨.hbm, 200, rfl⟩
abbrev main_v131 : Ref sig .tc := ⟨.hbm, 201, rfl⟩
abbrev main_c_28 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_29 : Ref sig .tc := ⟨.hbm, 210, rfl⟩
abbrev main_cst_30 : Ref sig .tc := ⟨.hbm, 211, rfl⟩
abbrev main_call4_v0 : Ref sig .tc := ⟨.hbm, 212, rfl⟩
abbrev main_call4_v1 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_cst_31 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_cst_32 : Ref sig .tc := ⟨.hbm, 244, rfl⟩
abbrev main_v168 : Ref sig .tc := ⟨.hbm, 245, rfl⟩
abbrev main_v169 : Ref sig .tc := ⟨.hbm, 246, rfl⟩
abbrev main_cst_33 : Ref sig .tc := ⟨.hbm, 247, rfl⟩
abbrev main_v170 : Ref sig .tc := ⟨.hbm, 248, rfl⟩
abbrev main_v171 : Ref sig .tc := ⟨.hbm, 249, rfl⟩
abbrev main_cst_34 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_cst_35 : Ref sig .tc := ⟨.hbm, 254, rfl⟩
abbrev main_cst_36 : Ref sig .tc := ⟨.hbm, 255, rfl⟩
abbrev main_call5_v0 : Ref sig .tc := ⟨.hbm, 256, rfl⟩
abbrev main_call5_v1 : Ref sig .tc := ⟨.hbm, 257, rfl⟩
abbrev main_call5_v2 : Ref sig .tc := ⟨.hbm, 258, rfl⟩
abbrev main_call5_v3 : Ref sig .tc := ⟨.hbm, 259, rfl⟩
abbrev main_call5_v4 : Ref sig .tc := ⟨.hbm, 260, rfl⟩
abbrev main_v175 : Ref sig .tc := ⟨.hbm, 261, rfl⟩
abbrev main_v176 : Ref sig .tc := ⟨.hbm, 262, rfl⟩

abbrev nD : Nat := 1
abbrev τ : Topo := Topo.v7x

variable {F : FTy → Type} [FloatOps F]
-- ==== Proof.Consts.lean ====
/- The real numbers that the float constants of both programs denote. -/
module

public import Idealize.ShloMosaic.PureOps.Ideal
public import Idealize.ShloMosaic.Lib.IdealHost

@[expose] public section

noncomputable section

namespace Cert.Camera

open Idealize.ShloMosaic

/-- `0.5`. -/
theorem c_half : Ideal.ofBits .f32 0x3F000000#32 = ((1 / 2 : ℝ) : EReal) := by
  simp [Ideal.ofBits, Ideal.ieee, -EReal.coe_mul]; norm_num
/-- `1.5`. -/
theorem c_1h : Ideal.ofBits .f32 0x3FC00000#32 = ((3 / 2 : ℝ) : EReal) := by
  simp [Ideal.ofBits, Ideal.ieee, -EReal.coe_mul]; norm_num
/-- `2.5`. -/
theorem c_2h : Ideal.ofBits .f32 0x40200000#32 = ((5 / 2 : ℝ) : EReal) := by
  simp [Ideal.ofBits, Ideal.ieee, -EReal.coe_mul]; norm_num
/-- `3.5`. -/
theorem c_3h : Ideal.ofBits .f32 0x40600000#32 = ((7 / 2 : ℝ) : EReal) := by
  simp [Ideal.ofBits, Ideal.ieee, -EReal.coe_mul]; norm_num
/-- `4.5`. -/
theorem c_4h : Ideal.ofBits .f32 0x40900000#32 = ((9 / 2 : ℝ) : EReal) := by
  simp [Ideal.ofBits, Ideal.ieee, -EReal.coe_mul]; norm_num
/-- `5.5`. -/
theorem c_5h : Ideal.ofBits .f32 0x40B00000#32 = ((11 / 2 : ℝ) : EReal) := by
  simp [Ideal.ofBits, Ideal.ieee, -EReal.coe_mul]; norm_num
/-- `6.5`. -/
theorem c_6h : Ideal.ofBits .f32 0x40D00000#32 = ((13 / 2 : ℝ) : EReal) := by
  simp [Ideal.ofBits, Ideal.ieee, -EReal.coe_mul]; norm_num
/-- `-0.5`. -/
theorem c_mhalf : Ideal.ofBits .f32 0xBF000000#32 = ((-(1 / 2) : ℝ) : EReal) := by
  simp [Ideal.ofBits, Ideal.ieee, -EReal.coe_mul, -EReal.coe_neg]; norm_num
/-- `-1.125`. -/
theorem c_m9o8 : Ideal.ofBits .f32 0xBF900000#32 = ((-(9 / 8) : ℝ) : EReal) := by
  simp [Ideal.ofBits, Ideal.ieee, -EReal.coe_mul, -EReal.coe_neg]; norm_num
/-- `-2`. -/
theorem c_m2 : Ideal.ofBits .f32 0xC0000000#32 = ((-2 : ℝ) : EReal) := by
  simp [Ideal.ofBits, Ideal.ieee, -EReal.coe_mul, -EReal.coe_neg]; norm_num
/-- `-4.5`. -/
theorem c_m9o2 : Ideal.ofBits .f32 0xC0900000#32 = ((-(9 / 2) : ℝ) : EReal) := by
  simp [Ideal.ofBits, Ideal.ieee, -EReal.coe_mul, -EReal.coe_neg]; norm_num
/-- `2`. -/
theorem c_2 : Ideal.ofBits .f32 0x40000000#32 = ((2 : ℝ) : EReal) := by
  simp [Ideal.ofBits, Ideal.ieee, -EReal.coe_mul]; norm_num
/-- `4`. -/
theorem c_4 : Ideal.ofBits .f32 0x40800000#32 = ((4 : ℝ) : EReal) := by
  simp [Ideal.ofBits, Ideal.ieee, -EReal.coe_mul]; norm_num
/-- `6`. -/
theorem c_6 : Ideal.ofBits .f32 0x40C00000#32 = ((6 : ℝ) : EReal) := by
  simp [Ideal.ofBits, Ideal.ieee, -EReal.coe_mul]; norm_num
/-- `960`. -/
theorem c_960 : Ideal.ofBits .f32 0x44700000#32 = ((960 : ℝ) : EReal) := by
  simp [Ideal.ofBits, Ideal.ieee, -EReal.coe_mul]; norm_num
/-- `+∞`. -/
theorem c_top : Ideal.ofBits .f32 0x7F800000#32 = (⊤ : EReal) := by
  simp [Ideal.ofBits, Ideal.ieee]
/-- `1e-6` as rounded: a positive real below a tenth. -/
theorem c_small : ∃ r : ℝ, 0 < r ∧ r < 1 / 10 ∧ Ideal.ofBits .f32 0x358637BD#32 = (r : EReal) := by
  refine ⟨(8796093 : ℝ) / 8796093022208, by norm_num, by norm_num, ?_⟩
  simp [Ideal.ofBits, Ideal.ieee, -EReal.coe_mul]; norm_num

end Cert.Camera

end
-- ==== Proof.Weight.lean ====
/- The weights of the blur: the kernel's one-dimensional Gaussian of each kernel size, the reference's two-dimensional
   Gaussian, and that the second is a product of two of the first. -/
module

public import proofs.«01_k».proof.Proof.Consts

@[expose] public section

noncomputable section

namespace Cert.Camera

open Idealize.ShloMosaic

/-- The one-dimensional weight at distance `j` of a pixel of kernel size `k`. -/
def gw (j k : ℕ) : ℝ :=
  if k ≤ 1 then (if j = 0 then 1 else 0)
  else if j ≤ k / 2 then Real.exp (-(18 * (j * j) / (k * k))) * (6 / k * (Real.sqrt (2 * Real.pi))⁻¹) else 0

/-- The entry of a table of eight that a kernel size, a float, picks. -/
def pick (t : ℕ → ℝ) (x : EReal) : EReal :=
  if x < ((1 / 2 : ℝ) : EReal) then (t 0 : EReal) else if x < ((3 / 2 : ℝ) : EReal) then (t 1 : EReal)
  else if x < ((5 / 2 : ℝ) : EReal) then (t 2 : EReal) else if x < ((7 / 2 : ℝ) : EReal) then (t 3 : EReal)
  else if x < ((9 / 2 : ℝ) : EReal) then (t 4 : EReal) else if x < ((11 / 2 : ℝ) : EReal) then (t 5 : EReal)
  else if x < ((13 / 2 : ℝ) : EReal) then (t 6 : EReal) else (t 7 : EReal)

/-- The weight that the kernel selects at distance `j`. -/
def gsel (j : ℕ) (x : EReal) : EReal := pick (gw j) x

/-- A kernel size between 2 and 7 picks its own entry. -/
theorem pick_mid (t : ℕ → ℝ) (n : ℕ) (h2 : 2 ≤ n) (h7 : n ≤ 7) : pick t ((n : ℝ) : EReal) = (t n : EReal) := by
  unfold pick
  simp only [EReal.coe_lt_coe_iff]
  interval_cases n <;> norm_num

/-- A kernel size of at most 1 picks one of the first two entries. -/
theorem pick_low (t : ℕ → ℝ) (n : ℤ) (h1 : n ≤ 1) (h : t 0 = t 1) : pick t ((n : ℝ) : EReal) = (t 0 : EReal) := by
  unfold pick
  simp only [EReal.coe_lt_coe_iff]
  have : (n : ℝ) ≤ 1 := by exact_mod_cast h1
  have h' : (n : ℝ) < 3 / 2 := by linarith
  rw [if_pos h', ← h, ite_self]

/-- The selected weight of a kernel size between 2 and 7. -/
theorem gsel_mid (j n : ℕ) (h2 : 2 ≤ n) (h7 : n ≤ 7) : gsel j ((n : ℝ) : EReal) = (gw j n : EReal) := pick_mid _ n h2 h7

/-- The selected weight of a kernel size of at most 1: the source pixel alone. -/
theorem gsel_low (j : ℕ) (n : ℤ) (h1 : n ≤ 1) : gsel j ((n : ℝ) : EReal) = if j = 0 then 1 else 0 := by
  unfold gsel
  rw [pick_low _ n h1 (by simp [gw])]
  by_cases h : j = 0 <;> simp [gw, h]

/-- The reference's deviation: a sixth of the kernel size, not below its small bound. -/
def sdev (x : EReal) : EReal := max (Ideal.div x (Ideal.ofBits .f32 0x40C00000#32)) (Ideal.ofBits .f32 0x358637BD#32)

/-- The reference's weight at squared distance `q` of a pixel of kernel size `x`. -/
def wRef (q x : EReal) : EReal :=
  Ideal.exp (-q * Ideal.div (Ideal.ofBits .f32 0x3F000000#32) (sdev x * sdev x))
    * Ideal.div 1 (Ideal.ofBits .f32 0x40000000#32 * (Ideal.ofBits .f32 0x40800000#32 * Ideal.atan 1) * sdev x * sdev x)

/-- A quotient of real numbers. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The deviation of a kernel size of at least 2. -/
theorem sdev_mid (n : ℕ) (h2 : 2 ≤ n) : sdev ((n : ℝ) : EReal) = ((n / 6 : ℝ) : EReal) := by
  obtain ⟨r, h0, h1, hr⟩ := c_small
  unfold sdev
  rw [c_6, hr, div_coe _ _ (by norm_num)]
  have : (2 : ℝ) ≤ n := by exact_mod_cast h2
  rw [max_eq_left]
  exact_mod_cast (by linarith : r ≤ (n : ℝ) / 6)

/-- The reference's weight as a real number. -/
theorem wRef_mid (q : ℝ) (n : ℕ) (h2 : 2 ≤ n) :
    wRef (q : EReal) ((n : ℝ) : EReal) = ((Real.exp (-(18 * q / (n * n))) * (18 / (Real.pi * (n * n))) : ℝ) : EReal) := by
  have hn : (n : ℝ) ≠ 0 := by
    have : (2 : ℝ) ≤ n := by exact_mod_cast h2
    linarith
  have hp : Real.pi ≠ 0 := Real.pi_ne_zero
  have ha : Ideal.atan 1 = ((Real.pi / 4 : ℝ) : EReal) := by
    show ((Real.arctan 1 : ℝ) : EReal) = _
    rw [Real.arctan_one]
  unfold wRef
  rw [sdev_mid n h2, c_half, c_2, c_4, ha]
  simp only [← EReal.coe_mul, ← EReal.coe_neg, ← EReal.coe_one]
  rw [div_coe _ _ (by positivity), div_coe _ _ (by positivity), ← EReal.coe_mul]
  show (((Real.exp _ : ℝ) : EReal)) * _ = _
  rw [← EReal.coe_mul]
  congr 1
  congr 1
  · congr 1; field_simp; ring
  · field_simp; ring

/-- The product of two one-dimensional weights is the two-dimensional one, inside the square of half the size. -/
theorem gw_mul (i j n : ℕ) (h2 : 2 ≤ n) :
    gw i n * gw j n = if i ≤ n / 2 ∧ j ≤ n / 2 then
      Real.exp (-(18 * (i * i + j * j) / (n * n))) * (18 / (Real.pi * (n * n))) else 0 := by
  have hn : (n : ℝ) ≠ 0 := by
    have : (2 : ℝ) ≤ n := by exact_mod_cast h2
    linarith
  have h1 : ¬ n ≤ 1 := by omega
  unfold gw
  rw [if_neg h1, if_neg h1]
  by_cases hi : i ≤ n / 2
  · by_cases hj : j ≤ n / 2
    · rw [if_pos hi, if_pos hj, if_pos ⟨hi, hj⟩]
      have hs : (Real.sqrt (2 * Real.pi))⁻¹ * (Real.sqrt (2 * Real.pi))⁻¹ = (2 * Real.pi)⁻¹ := by
        rw [← mul_inv, Real.mul_self_sqrt (by positivity)]
      have he : Real.exp (-(18 * (i * i + j * j) / (n * n)))
          = Real.exp (-(18 * (i * i) / (n * n))) * Real.exp (-(18 * (j * j) / (n * n))) := by
        rw [← Real.exp_add]; congr 1; ring
      rw [he]
      calc _ = Real.exp (-(18 * (i * i) / (n * n))) * Real.exp (-(18 * (j * j) / (n * n)))
            * ((6 / n) * (6 / n) * ((Real.sqrt (2 * Real.pi))⁻¹ * (Real.sqrt (2 * Real.pi))⁻¹)) := by ring
        _ = _ := by
          rw [hs]; congr 1
          have hp : Real.pi ≠ 0 := Real.pi_ne_zero
          field_simp; norm_num
    · rw [if_neg hj, if_neg (show ¬ (i ≤ n / 2 ∧ j ≤ n / 2) from fun h => hj h.2), mul_zero]
  · rw [if_neg hi, if_neg (show ¬ (i ≤ n / 2 ∧ j ≤ n / 2) from fun h => hi h.1), zero_mul]

/-- The kernel's two selected weights of a kernel size between 2 and 7 multiply to the reference's masked weight. -/
theorem gsel_mul (i j n : ℕ) (h2 : 2 ≤ n) (h7 : n ≤ 7) :
    gsel i ((n : ℝ) : EReal) * gsel j ((n : ℝ) : EReal)
      = if i ≤ n / 2 ∧ j ≤ n / 2 then wRef (((i * i + j * j : ℕ) : ℝ) : EReal) ((n : ℝ) : EReal) else 0 := by
  rw [gsel_mid i n h2 h7, gsel_mid j n h2 h7, ← EReal.coe_mul, gw_mul i j n h2]
  by_cases h : i ≤ n / 2 ∧ j ≤ n / 2
  · rw [if_pos h, if_pos h, wRef_mid _ n h2]; push_cast; rfl
  · rw [if_neg h, if_neg h]; rfl

end Cert.Camera

end
-- ==== Proof.Elem.lean ====
/- Identities of the extended reals that the two programs' elementwise operations meet in. -/
module

public import Idealize.ShloMosaic.PureOps.Ideal

@[expose] public section

noncomputable section

namespace Cert.Camera

open Idealize.ShloMosaic

/-- The exponential of a logarithm times `y` is the power with exponent `y`, for a positive base and every exponent. -/
theorem exp_log_mul (x y : EReal) (hx : 0 < x) : Ideal.exp (Ideal.log x * y) = Ideal.pow x y := by
  induction x with
  | bot => simp at hx
  | top =>
    show Ideal.exp (⊤ * y) = if 0 < y then ⊤ else if y = 0 then 1 else 0
    rcases lt_trichotomy y 0 with h | h | h
    · rw [EReal.top_mul_of_neg h, if_neg (not_lt.2 h.le), if_neg h.ne]; rfl
    · subst h; simp only [mul_zero, lt_irrefl, if_false, if_true]
      show ((Real.exp 0 : ℝ) : EReal) = 1
      simp
    · rw [EReal.top_mul_of_pos h, if_pos h]; rfl
  | coe x =>
    have hx' : (0 : ℝ) < x := by exact_mod_cast hx
    have hl : Ideal.log (x : EReal) = ((Real.log x : ℝ) : EReal) := by
      show (if x ≤ 0 then ⊥ else ((Real.log x : ℝ) : EReal)) = _
      rw [if_neg (not_le.2 hx')]
    have e0 : Ideal.exp 0 = 1 := by
      show ((Real.exp 0 : ℝ) : EReal) = 1
      simp
    rw [hl]
    induction y with
    | bot =>
      show _ = if x < 0 then ⊥ else if 1 < x then 0 else if x = 1 then 1 else ⊤
      rw [if_neg hx'.not_gt]
      rcases lt_trichotomy x 1 with h | h | h
      · have : ((Real.log x : ℝ) : EReal) < 0 := by exact_mod_cast Real.log_neg hx' h
        rw [EReal.mul_bot_of_neg this, if_neg h.not_gt, if_neg h.ne]; rfl
      · subst h; simp [e0]
      · have : (0 : EReal) < ((Real.log x : ℝ) : EReal) := by exact_mod_cast Real.log_pos h
        rw [EReal.mul_bot_of_pos this, if_pos h]; rfl
    | top =>
      show _ = if x < 0 then ⊥ else if 1 < x then ⊤ else if x = 1 then 1 else 0
      rw [if_neg hx'.not_gt]
      rcases lt_trichotomy x 1 with h | h | h
      · have : ((Real.log x : ℝ) : EReal) < 0 := by exact_mod_cast Real.log_neg hx' h
        rw [EReal.mul_top_of_neg this, if_neg h.not_gt, if_neg h.ne]; rfl
      · subst h; simp [e0]
      · have : (0 : EReal) < ((Real.log x : ℝ) : EReal) := by exact_mod_cast Real.log_pos h
        rw [EReal.mul_top_of_pos this, if_pos h]; rfl
    | coe y =>
      rw [← EReal.coe_mul]
      show ((Real.exp _ : ℝ) : EReal) = ((x ^ y : ℝ) : EReal)
      rw [Real.rpow_def_of_pos hx']

/-- A positive real times its reciprocal root is its root. -/
theorem mul_rsqrt (x : EReal) (hx : 0 < x) (ht : x ≠ ⊤) : x * Ideal.rsqrt x = Ideal.sqrt x := by
  induction x with
  | bot => simp at hx
  | top => exact absurd rfl ht
  | coe x =>
    have hx' : (0 : ℝ) < x := by exact_mod_cast hx
    show (x : EReal) * (if x < 0 then ⊥ else if x = 0 then ⊤ else (((Real.sqrt x)⁻¹ : ℝ) : EReal))
      = if x < 0 then ⊥ else ((Real.sqrt x : ℝ) : EReal)
    rw [if_neg hx'.not_gt, if_neg hx'.ne', if_neg hx'.not_gt, ← EReal.coe_mul]
    congr 1
    rw [← div_eq_mul_inv, Real.div_sqrt]

/-- The fourth power of the reciprocal root of a number not below one is the reciprocal of its square. -/
theorem rsqrt_four (d : EReal) (hd : 1 ≤ d) :
    (Ideal.rsqrt d * Ideal.rsqrt d) * (Ideal.rsqrt d * Ideal.rsqrt d) = Ideal.div 1 (d * d) := by
  induction d with
  | bot => exact absurd (le_bot_iff.1 hd) (EReal.coe_ne_bot 1)
  | top =>
    show ((0 : EReal) * 0) * (0 * 0) = if (⊤ : EReal) * ⊤ = 0 then _ else 1 * (⊤ * ⊤)⁻¹
    simp
  | coe d =>
    have hd' : (1 : ℝ) ≤ d := by exact_mod_cast hd
    have h0 : (0 : ℝ) < d := by linarith
    have hr : Ideal.rsqrt (d : EReal) = (((Real.sqrt d)⁻¹ : ℝ) : EReal) := by
      show (if d < 0 then ⊥ else if d = 0 then ⊤ else (((Real.sqrt d)⁻¹ : ℝ) : EReal)) = _
      rw [if_neg h0.not_gt, if_neg h0.ne']
    have hn : ((d : EReal) * d) ≠ 0 := by
      rw [← EReal.coe_mul]; exact_mod_cast (mul_pos h0 h0).ne'
    rw [hr]
    unfold Ideal.div
    rw [if_neg hn, ← EReal.coe_mul, ← EReal.coe_mul, ← EReal.coe_mul, one_mul, ← EReal.coe_inv]
    congr 1
    rw [← mul_inv, Real.mul_self_sqrt h0.le, mul_inv]

/-- That reciprocal is a real number. -/
theorem div_one_sq_real (d : EReal) (hd : 1 ≤ d) : ∃ r : ℝ, Ideal.div 1 (d * d) = (r : EReal) := by
  rw [← rsqrt_four d hd]
  induction d with
  | bot => exact absurd (le_bot_iff.1 hd) (EReal.coe_ne_bot 1)
  | top => exact ⟨0, by show ((0 : EReal) * 0) * (0 * 0) = _; simp⟩
  | coe d =>
    have hd' : (1 : ℝ) ≤ d := by exact_mod_cast hd
    have h0 : (0 : ℝ) < d := by linarith
    have hr : Ideal.rsqrt (d : EReal) = (((Real.sqrt d)⁻¹ : ℝ) : EReal) := by
      show (if d < 0 then ⊥ else if d = 0 then ⊤ else (((Real.sqrt d)⁻¹ : ℝ) : EReal)) = _
      rw [if_neg h0.not_gt, if_neg h0.ne']
    rw [hr]
    exact ⟨_, by rw [← EReal.coe_mul, ← EReal.coe_mul]⟩

/-- A square is not negative. -/
theorem sq_nonneg' (x : EReal) : 0 ≤ x * x := by
  rcases le_total 0 x with h | h
  · exact EReal.mul_nonneg h h
  · exact EReal.mul_nonneg_iff.2 (Or.inr ⟨h, h⟩)

/-- The vignetting denominator is not below one. -/
theorem one_le_den (v a b : EReal) (hv : 0 ≤ v) : 1 ≤ 1 + v * (a * a + b * b) := by
  have h : 0 ≤ v * (a * a + b * b) := EReal.mul_nonneg hv (add_nonneg (sq_nonneg' a) (sq_nonneg' b))
  calc (1 : EReal) = 1 + 0 := (add_zero 1).symm
    _ ≤ _ := by gcongr

/-- What lies strictly inside both infinities is a real number. -/
theorem real_of_abs_lt (x : EReal) (h : max x (-x) < ⊤) : ∃ r : ℝ, x = (r : EReal) := by
  induction x with
  | bot => simp at h
  | top => simp at h
  | coe r => exact ⟨r, rfl⟩

end Cert.Camera

end
-- ==== Proof.Spec.lean ====
/- The functions that both programs are shown to compute: electrons behind the lens, the blur as a sum over a 7 × 7
   neighbourhood, and the read-out of one element. -/
module

public import proofs.«01_k».proof.Proof.Weight
public import proofs.«01_k».proof.Proof.Elem
public import Idealize.ShloMosaic.Lib.Pointwise

@[expose] public section

noncomputable section

namespace Cert.Camera

open Idealize.ShloMosaic

/-- The coordinate of row or column `n` from the centre `c`, in half widths. -/
def pos (n : ℕ) (c : EReal) : EReal := Ideal.div (((n : ℝ) : EReal) - c) (Ideal.ofBits .f32 0x44700000#32)

/-- The vignetting denominator at row `y`, column `x`. -/
def den (vg : EReal) (y x : ℕ) : EReal :=
  1 + vg * (pos y (Ideal.ofBits .f32 0x4406E000#32) * pos y (Ideal.ofBits .f32 0x4406E000#32)
    + pos x (Ideal.ofBits .f32 0x446FE000#32) * pos x (Ideal.ofBits .f32 0x446FE000#32))

/-- Electrons at row `y`, column `x`, of image value `im` and quantum efficiency `qe`. -/
def elec (im qe vg : EReal) (y x : ℕ) : EReal := im * qe * Ideal.div 1 (den vg y x * den vg y x)

/-- What a source pixel of `e` electrons and kernel size `k` gives at distances `a`, `b`. -/
def mg (a b : ℕ) (e k : EReal) : EReal := e * (gsel a k * gsel b k)

/-- The same at source coordinates of the plane, nothing outside the image. -/
def mz (e k : Fin 1080 → Fin 1920 → EReal) (a b : ℕ) (y x : ℤ) : EReal :=
  if h : (0 ≤ y ∧ y < 1080) ∧ (0 ≤ x ∧ x < 1920) then
    mg a b (e ⟨y.toNat, by omega⟩ ⟨x.toNat, by omega⟩) (k ⟨y.toNat, by omega⟩ ⟨x.toNat, by omega⟩)
  else 0

/-- The blurred image at `(y, x)`: what the 7 × 7 neighbours give it. -/
def blur (e k : Fin 1080 → Fin 1920 → EReal) (y x : ℤ) : EReal :=
  ∑ b : Fin 7, ∑ a : Fin 7, mz e k ((a : ℤ) - 3).natAbs ((b : ℤ) - 3).natAbs (y + ((a : ℤ) - 3)) (x + ((b : ℤ) - 3))

/-- The read-out of `eb` electrons. -/
def readout (eb dark ngain std egain ebias gam nb : EReal) : EReal :=
  min 1 (max 0 (Ideal.pow (max (egain * (eb + dark + ngain * Ideal.sqrt (max eb (Ideal.ofBits .f32 0x358637BD#32)) * nb
    + std * nb) + ebias) 0 + Ideal.ofBits .f32 0x358637BD#32) (Ideal.div 1 gam)))

/-- The read-out as the kernel writes it, `ig` the reciprocal of the exponent. -/
def readoutK (eb dark ngain std egain ebias ig nb : EReal) : EReal :=
  min 1 (max 0 (Ideal.exp (Ideal.log (max (egain * (eb + dark
    + ngain * (max eb (Ideal.ofBits .f32 0x358637BD#32) * Ideal.rsqrt (max eb (Ideal.ofBits .f32 0x358637BD#32))) * nb
    + std * nb) + ebias) 0 + Ideal.ofBits .f32 0x358637BD#32) * ig)))

/-- The two read-outs agree where the electrons are finite. -/
theorem readoutK_eq (eb dark ngain std egain ebias gam nb : EReal) (ht : eb ≠ ⊤) :
    readoutK eb dark ngain std egain ebias (Ideal.div 1 gam) nb = readout eb dark ngain std egain ebias gam nb := by
  obtain ⟨r, h0, -, hr⟩ := c_small
  have hp : (0 : EReal) < Ideal.ofBits .f32 0x358637BD#32 := by rw [hr]; exact_mod_cast h0
  have hm : max eb (Ideal.ofBits .f32 0x358637BD#32) ≠ ⊤ := by
    rw [hr]
    rcases max_choice eb (r : EReal) with h | h <;> rw [h]
    · exact ht
    · exact EReal.coe_ne_top r
  unfold readoutK readout
  rw [mul_rsqrt _ (lt_max_of_lt_right hp) hm, exp_log_mul]
  exact lt_of_lt_of_le hp (le_add_of_nonneg_left (le_max_right _ _))

/-- The kernel's electrons: the fourth power of a reciprocal root in place of the reciprocal square. -/
theorem elec_eq (im qe vg : EReal) (y x : ℕ) (hv : 0 ≤ vg) :
    im * (qe * ((Ideal.rsqrt (den vg y x) * Ideal.rsqrt (den vg y x))
      * (Ideal.rsqrt (den vg y x) * Ideal.rsqrt (den vg y x)))) = elec im qe vg y x := by
  unfold elec
  rw [rsqrt_four (den vg y x) (one_le_den _ _ _ hv), mul_assoc]

/-- Electrons are finite where image and efficiency are. -/
theorem elec_real (im qe vg : EReal) (y x : ℕ) (hv : 0 ≤ vg) (hi : ∃ r : ℝ, im = r) (hq : ∃ r : ℝ, qe = r) :
    ∃ r : ℝ, elec im qe vg y x = r := by
  obtain ⟨a, rfl⟩ := hi
  obtain ⟨b, rfl⟩ := hq
  obtain ⟨c, hc⟩ := div_one_sq_real (den vg y x) (one_le_den _ _ _ hv)
  unfold elec
  rw [hc]
  exact ⟨_, by rw [← EReal.coe_mul, ← EReal.coe_mul]⟩

/-- A selected weight is a real number. -/
theorem gsel_real (j : ℕ) (x : EReal) : ∃ r : ℝ, gsel j x = r := by
  unfold gsel pick
  split_ifs <;> exact ⟨_, rfl⟩

/-- What a source pixel gives is finite where its electrons are. -/
theorem mz_real (e k : Fin 1080 → Fin 1920 → EReal) (he : ∀ y x, ∃ r : ℝ, e y x = r) (a b : ℕ) (y x : ℤ) :
    ∃ r : ℝ, mz e k a b y x = r := by
  unfold mz mg
  split_ifs with h
  · obtain ⟨r, hr⟩ := he ⟨y.toNat, by omega⟩ ⟨x.toNat, by omega⟩
    obtain ⟨s, hs⟩ := gsel_real a (k ⟨y.toNat, by omega⟩ ⟨x.toNat, by omega⟩)
    obtain ⟨t, ht⟩ := gsel_real b (k ⟨y.toNat, by omega⟩ ⟨x.toNat, by omega⟩)
    exact ⟨r * (s * t), by rw [hr, hs, ht]; push_cast; rfl⟩
  · exact ⟨0, rfl⟩

/-- A finite sum of real numbers is one. -/
theorem sum_real {ι : Type} (s : Finset ι) (f : ι → EReal) (h : ∀ i, ∃ r : ℝ, f i = r) : ∃ r : ℝ, ∑ i ∈ s, f i = r := by
  choose g hg using h
  refine ⟨∑ i ∈ s, g i, ?_⟩
  rw [Finset.sum_congr rfl fun i _ => hg i]
  exact (map_sum (⟨⟨Real.toEReal, rfl⟩, EReal.coe_add⟩ : ℝ →+ EReal) g s).symm

/-- The blurred image is finite where the electrons are. -/
theorem blur_real (e k : Fin 1080 → Fin 1920 → EReal) (he : ∀ y x, ∃ r : ℝ, e y x = r) (y x : ℤ) :
    ∃ r : ℝ, blur e k y x = r :=
  sum_real _ _ fun _ => sum_real _ _ fun _ => mz_real e k he _ _ _ _

end Cert.Camera

end
-- ==== Proof.Block.lean ====
/- What the body computes at one index of its block: weights, products, sums over rows and lanes, read-out. -/
module

public import proofs.«01_k».proof.Proof.Spec
public import proofs.«01_k».proof.Proof.Gen.KernelIdeal.Skeleton

@[expose] public section

noncomputable section

namespace Cert.Camera

open Idealize.ShloMosaic Cert.KernelIdeal Cert.KernelIdeal.Gen

/-- Named normalisers. -/
theorem n7 : (Named.named κ "norm7" 0x3EAF1424#32 : Ideal .f32) = (((6 / 7) * (Real.sqrt (2 * Real.pi))⁻¹ : ℝ) : EReal) := rfl
/-- The normaliser of kernel size 6. -/
theorem n6 : (Named.named κ "norm6" 0x3ECC422A#32 : Ideal .f32) = ((1 * (Real.sqrt (2 * Real.pi))⁻¹ : ℝ) : EReal) := rfl
/-- The normaliser of kernel size 5. -/
theorem n5 : (Named.named κ "norm5" 0x3EF51C32#32 : Ideal .f32) = (((6 / 5) * (Real.sqrt (2 * Real.pi))⁻¹ : ℝ) : EReal) := rfl
/-- The normaliser of kernel size 4. -/
theorem n4 : (Named.named κ "norm4" 0x3F19319F#32 : Ideal .f32) = (((3 / 2) * (Real.sqrt (2 * Real.pi))⁻¹ : ℝ) : EReal) := rfl
/-- The normaliser of kernel size 3. -/
theorem n3 : (Named.named κ "norm3" 0x3F4C422A#32 : Ideal .f32) = ((2 * (Real.sqrt (2 * Real.pi))⁻¹ : ℝ) : EReal) := rfl
/-- The normaliser of kernel size 2. -/
theorem n2 : (Named.named κ "norm2" 0x3F99319F#32 : Ideal .f32) = ((3 * (Real.sqrt (2 * Real.pi))⁻¹ : ℝ) : EReal) := rfl
/-- Named exponents. -/
theorem x51 : (Named.named κ "expo5_1" 0xBF3851EC#32 : Ideal .f32) = ((-18 / 25 : ℝ) : EReal) := rfl
/-- The exponent of size 5 at offset 2. -/
theorem x52 : (Named.named κ "expo5_2" 0xC03851EC#32 : Ideal .f32) = ((-72 / 25 : ℝ) : EReal) := rfl
/-- The exponent of size 7 at offset 1. -/
theorem x71 : (Named.named κ "expo7_1" 0xBEBC14E6#32 : Ideal .f32) = ((-18 / 49 : ℝ) : EReal) := rfl
/-- The exponent of size 7 at offset 2. -/
theorem x72 : (Named.named κ "expo7_2" 0xBFBC14E6#32 : Ideal .f32) = ((-72 / 49 : ℝ) : EReal) := rfl
/-- The exponent of size 7 at offset 3. -/
theorem x73 : (Named.named κ "expo7_3" 0xC0539783#32 : Ideal .f32) = ((-162 / 49 : ℝ) : EReal) := rfl
/-- The named step of the pixel grid. -/
theorem ihw : (Named.named κ "inv_half_width" 0x3A888889#32 : Ideal .f32) = ((1 / 960 : ℝ) : EReal) := rfl

/-- An entry of the kernel's tables: the exponential of its exponent times its normaliser. -/
theorem entry (j k : ℕ) (hk : 2 ≤ k) (hj : j ≤ k / 2) (a b : ℝ) (A B : EReal) (hA : A = (a : EReal)) (hB : B = (b : EReal))
    (ha : a = -(18 * (j * j) / (k * k))) (hb : b = 6 / k * (Real.sqrt (2 * Real.pi))⁻¹) :
    (Scalar.exp (F := Ideal) (φ := .f32) A * B : EReal) = (gw j k : EReal) := by
  unfold gw
  rw [if_neg (by omega), if_pos hj, ← ha, ← hb, EReal.coe_mul, hA, hB]
  rfl

/-- The weight selected at distance 0. -/
theorem g0_apply (kt : Vec Ideal S8x5760 .f32) (kc : Vec Ideal S72x5760 .f32) (kb : Vec Ideal S8x5760 .f32)
    (j : S11x8x5760.Idx) :
    k0_pay16 (k0_pay12 kt kc kb) k0_pay13 (k0_pay14 kt kc kb) k0_pay15 j = gsel 0 (k0_pay12 kt kc kb j) := by
  unfold k0_pay14
  generalize k0_pay12 kt kc kb = v
  pointwise [k0_pay16, k0_pay13, k0_pay15]
  unfold gsel pick
  rw [c_half, c_1h, c_2h, c_3h, c_4h, c_5h, c_6h]
  refine if_congr Iff.rfl ?_ (if_congr Iff.rfl ?_ (if_congr Iff.rfl ?_ (if_congr Iff.rfl ?_ (if_congr Iff.rfl ?_
    (if_congr Iff.rfl ?_ (if_congr Iff.rfl ?_ ?_))))))
  · simp [gw]
  · simp [gw]
  · exact entry 0 2 (by decide) (by decide) 0 _ _ _ EReal.coe_zero.symm n2 (by norm_num) (by norm_num)
  · exact entry 0 3 (by decide) (by decide) 0 _ _ _ EReal.coe_zero.symm n3 (by norm_num) (by norm_num)
  · exact entry 0 4 (by decide) (by decide) 0 _ _ _ EReal.coe_zero.symm n4 (by norm_num) (by norm_num)
  · exact entry 0 5 (by decide) (by decide) 0 _ _ _ EReal.coe_zero.symm n5 (by norm_num) (by norm_num)
  · exact entry 0 6 (by decide) (by decide) 0 _ _ _ EReal.coe_zero.symm n6 (by norm_num) (by norm_num)
  · exact entry 0 7 (by decide) (by decide) 0 _ _ _ EReal.coe_zero.symm n7 (by norm_num) (by norm_num)

/-- The weight selected at distance 1. -/
theorem g1_apply (v : FVec Ideal S11x8x5760 .f32) (j : S11x8x5760.Idx) :
    k0_pay19 v k0_pay17 (k0_pay18 v) j = gsel 1 (v j) := by
  pointwise [k0_pay19, k0_pay17, k0_pay18]
  unfold gsel pick
  rw [c_half, c_1h, c_2h, c_3h, c_4h, c_5h, c_6h]
  refine if_congr Iff.rfl ?_ (if_congr Iff.rfl ?_ (if_congr Iff.rfl ?_ (if_congr Iff.rfl ?_ (if_congr Iff.rfl ?_
    (if_congr Iff.rfl ?_ (if_congr Iff.rfl ?_ ?_))))))
  · simp [gw]
  · simp [gw]
  · exact entry 1 2 (by decide) (by decide) _ _ _ _ c_m9o2 n2 (by norm_num) (by norm_num)
  · exact entry 1 3 (by decide) (by decide) _ _ _ _ c_m2 n3 (by norm_num) (by norm_num)
  · exact entry 1 4 (by decide) (by decide) _ _ _ _ c_m9o8 n4 (by norm_num) (by norm_num)
  · exact entry 1 5 (by decide) (by decide) _ _ _ _ x51 n5 (by norm_num) (by norm_num)
  · exact entry 1 6 (by decide) (by decide) _ _ _ _ c_mhalf n6 (by norm_num) (by norm_num)
  · exact entry 1 7 (by decide) (by decide) _ _ _ _ x71 n7 (by norm_num) (by norm_num)

/-- The weight selected at distance 2. -/
theorem g2_apply (v : FVec Ideal S11x8x5760 .f32) (j : S11x8x5760.Idx) :
    k0_pay21 v k0_pay20 (Scalar.ofBits .f32 0x40D00000#32) j = gsel 2 (v j) := by
  pointwise [k0_pay21, k0_pay20]
  unfold gsel pick
  rw [c_half, c_1h, c_2h, c_3h, c_4h, c_5h, c_6h]
  refine if_congr Iff.rfl ?_ (if_congr Iff.rfl ?_ (if_congr Iff.rfl ?_ (if_congr Iff.rfl ?_ (if_congr Iff.rfl ?_
    (if_congr Iff.rfl ?_ (if_congr Iff.rfl ?_ ?_))))))
  · simp [gw]
  · simp [gw]
  · simp [gw]
  · simp [gw]
  · exact entry 2 4 (by decide) (by decide) _ _ _ _ c_m9o2 n4 (by norm_num) (by norm_num)
  · exact entry 2 5 (by decide) (by decide) _ _ _ _ x52 n5 (by norm_num) (by norm_num)
  · exact entry 2 6 (by decide) (by decide) _ _ _ _ c_m2 n6 (by norm_num) (by norm_num)
  · exact entry 2 7 (by decide) (by decide) _ _ _ _ x72 n7 (by norm_num) (by norm_num)

/-- The weight selected at distance 3. -/
theorem g3_apply (v : FVec Ideal S11x8x5760 .f32) (j : S11x8x5760.Idx) :
    k0_pay25 v k0_pay22 (k0_pay23 v) k0_pay24 j = gsel 3 (v j) := by
  pointwise [k0_pay25, k0_pay22, k0_pay23, k0_pay24]
  unfold gsel pick
  rw [c_half, c_1h, c_2h, c_3h, c_4h, c_5h, c_6h]
  refine if_congr Iff.rfl ?_ (if_congr Iff.rfl ?_ (if_congr Iff.rfl ?_ (if_congr Iff.rfl ?_ (if_congr Iff.rfl ?_
    (if_congr Iff.rfl ?_ (if_congr Iff.rfl ?_ ?_))))))
  · simp [gw]
  · simp [gw]
  · simp [gw]
  · simp [gw]
  · simp [gw]
  · simp [gw]
  · exact entry 3 6 (by decide) (by decide) _ _ _ _ c_m9o2 n6 (by norm_num) (by norm_num)
  · exact entry 3 7 (by decide) (by decide) _ _ _ _ x73 n7 (by norm_num) (by norm_num)

end Cert.Camera

end
-- ==== Proof.Blur.lean ====
/- What the body computes at one index of its block: sums over rows, then over lanes, of products of electrons with two
   weights. -/
module

public import proofs.«01_k».proof.Proof.Block

@[expose] public section

noncomputable section

namespace Cert.Camera

open Idealize.ShloMosaic Cert.KernelIdeal Cert.KernelIdeal.Gen

/-- Row `n + r`, lane `l`, of the 88 rows in groups of eight. -/
def cell (n : ℕ) (hn : n < 17) (r : Fin 72) (l : Fin 5760) : S11x8x5760.Idx :=
  ix3 ⟨(n + r.val) / 8, by omega⟩ ⟨(n + r.val) % 8, by omega⟩ l

/-- The sum over seven rows about row `r` of the block at distance `k` across. -/
def vs (e v : FVec Ideal S11x8x5760 .f32) (k : ℕ) (r : Fin 72) (l : Fin 5760) : EReal :=
  ∑ a : Fin 7, mg ((a : ℤ) - 3).natAbs k (e (cell (5 + a.val) (by omega) r l)) (v (cell (5 + a.val) (by omega) r l))

/-- That sum term by term. -/
theorem vs_eq (e v : FVec Ideal S11x8x5760 .f32) (k : ℕ) (r : Fin 72) (l : Fin 5760) : vs e v k r l =
    mg 3 k (e (cell 5 (by decide) r l)) (v (cell 5 (by decide) r l))
    + mg 2 k (e (cell 6 (by decide) r l)) (v (cell 6 (by decide) r l))
    + mg 1 k (e (cell 7 (by decide) r l)) (v (cell 7 (by decide) r l))
    + mg 0 k (e (cell 8 (by decide) r l)) (v (cell 8 (by decide) r l))
    + mg 1 k (e (cell 9 (by decide) r l)) (v (cell 9 (by decide) r l))
    + mg 2 k (e (cell 10 (by decide) r l)) (v (cell 10 (by decide) r l))
    + mg 3 k (e (cell 11 (by decide) r l)) (v (cell 11 (by decide) r l)) := by
  unfold vs
  rw [Fin.sum_univ_seven]
  rfl

/-- A product of electrons with two weights, the first first. -/
theorem mg_left (a b : ℕ) (e k : EReal) : e * gsel a k * gsel b k = mg a b e k := mul_assoc _ _ _

/-- … the second first. -/
theorem mg_right (a b : ℕ) (e k : EReal) : e * gsel a k * gsel b k = mg b a e k := by
  unfold mg
  rw [mul_assoc, mul_comm (gsel a k)]

section

variable (e v g0 g1 g2 : FVec Ideal S11x8x5760 .f32) (h0 : ∀ j, g0 j = gsel 0 (v j)) (h1 : ∀ j, g1 j = gsel 1 (v j))
  (h2 : ∀ j, g2 j = gsel 2 (v j)) (r : Fin 72) (l : Fin 5760)

include h0 h1 h2

/-- The sum over rows that stays in its lane. -/
theorem col0 : k0_pay39 (k0_pay30 e g0) (k0_pay31 e g0 g1) (k0_pay32 e g0 g2)
    (k0_pay33 e v g0 k0_pay22 (k0_pay23 v) k0_pay24) (ix2 r l) = vs e v 0 r l := by
  unfold k0_pay33 k0_pay32 k0_pay31 k0_pay30 k0_pay26
  generalize hg : k0_pay25 v k0_pay22 (k0_pay23 v) k0_pay24 = g3
  have h3 : ∀ j, g3 j = gsel 3 (v j) := fun j => hg ▸ g3_apply v j
  pointwise [k0_pay39]
  simp only [h0, h1, h2, h3]
  rw [vs_eq]
  simp only [mg_right 0 0, mg_right 0 1, mg_right 0 2, mg_right 0 3]
  unfold cell
  abel

/-- The sum over rows at distance 1 across. -/
theorem col1 : k0_pay40 (k0_pay31 e g0 g1) (k0_pay34 e g1) (k0_pay35 e g1 g2)
    (k0_pay36 e v g1 k0_pay22 (k0_pay23 v) k0_pay24) (ix2 r l) = vs e v 1 r l := by
  unfold k0_pay36 k0_pay35 k0_pay34 k0_pay31 k0_pay27 k0_pay26
  generalize hg : k0_pay25 v k0_pay22 (k0_pay23 v) k0_pay24 = g3
  have h3 : ∀ j, g3 j = gsel 3 (v j) := fun j => hg ▸ g3_apply v j
  pointwise [k0_pay40]
  simp only [h0, h1, h2, h3]
  rw [vs_eq]
  simp only [mg_left 0 1, mg_right 1 1, mg_right 1 2, mg_right 1 3]
  unfold cell
  abel

/-- The sum over rows at distance 2 across. -/
theorem col2 : k0_pay41 (k0_pay25 v k0_pay22 (k0_pay23 v) k0_pay24) (k0_pay28 e g2) (k0_pay32 e g0 g2) (k0_pay35 e g1 g2)
    (k0_pay37 e g2) (ix2 r l) = vs e v 2 r l := by
  unfold k0_pay41 k0_pay38 k0_pay37 k0_pay35 k0_pay32 k0_pay28 k0_pay27 k0_pay26
  generalize hg : k0_pay25 v k0_pay22 (k0_pay23 v) k0_pay24 = g3
  have h3 : ∀ j, g3 j = gsel 3 (v j) := fun j => hg ▸ g3_apply v j
  pointwise
  simp only [h0, h1, h2, h3]
  rw [vs_eq]
  simp only [mg_left 0 2, mg_left 1 2, mg_right 2 2, mg_right 2 3]
  unfold cell
  abel

/-- The sum over rows at distance 3 across. -/
theorem col3 : k0_pay42 (k0_pay25 v k0_pay22 (k0_pay23 v) k0_pay24) (k0_pay28 e g2)
    (k0_pay29 e v k0_pay22 (k0_pay23 v) k0_pay24)
    (k0_pay33 e v g0 k0_pay22 (k0_pay23 v) k0_pay24) (k0_pay36 e v g1 k0_pay22 (k0_pay23 v) k0_pay24) (ix2 r l)
    = vs e v 3 r l := by
  unfold k0_pay42 k0_pay38 k0_pay36 k0_pay33 k0_pay29 k0_pay28 k0_pay27 k0_pay26
  generalize hg : k0_pay25 v k0_pay22 (k0_pay23 v) k0_pay24 = g3
  have h3 : ∀ j, g3 j = gsel 3 (v j) := fun j => hg ▸ g3_apply v j
  pointwise
  simp only [h0, h1, h2, h3]
  rw [vs_eq]
  simp only [mg_left 0 3, mg_left 1 3, mg_left 2 3, mg_right 3 3]
  unfold cell
  abel

end

/-- A rotation by `s` lanes reads `s` lanes before, around the end. -/
theorem roll_apply (n : BitVec 32) (s : ℕ) (hs : n.toNat = s) (h : s < 5760) (v : FVec Ideal S72x5760 .f32) (r : Fin 72)
    (l : Fin 5760) : dynamicRotate 1 n none v rotates_S72x5760_d1 (ix2 r l)
      = v (ix2 r ⟨(l.val + 5760 - s) % 5760, Nat.mod_lt _ (by decide)⟩) := by
  unfold dynamicRotate
  refine congrArg v (funext fun b => ?_)
  match b with
  | ⟨0, _⟩ => rfl
  | ⟨1, _⟩ =>
    refine Fin.ext ?_
    show (l.val + 5760 - (n.toNat + 0) % 5760) % 5760 = (l.val + 5760 - s) % 5760
    have : (n.toNat + 0) % 5760 = s := by omega
    rw [this]

/-- A choice by a lane number not below a bound. -/
theorem sel_ge (l : Fin 5760) (n : BitVec 32) (s : ℕ) (hs : n = BitVec.ofNat 32 s) (h : s < 5760) (a b : EReal) :
    Scalar.select (IntOp.cmpi .sge (BitVec.ofNat 32 l.val) n) a b = if s ≤ l.val then a else b := by
  subst hs
  have h1 : (BitVec.ofNat 32 l.val).toInt = l.val := by
    rw [BitVec.toInt_eq_toNat_of_lt (by rw [BitVec.toNat_ofNat]; omega), BitVec.toNat_ofNat]; omega
  have h2 : (BitVec.ofNat 32 s).toInt = s := by
    rw [BitVec.toInt_eq_toNat_of_lt (by rw [BitVec.toNat_ofNat]; omega), BitVec.toNat_ofNat]; omega
  unfold IntOp.cmpi Scalar.select
  simp only [BitVec.sle, h1, h2, Nat.cast_le]
  by_cases hc : s ≤ l.val <;> simp [hc]

/-- A choice by a lane number below a bound. -/
theorem sel_lt (l : Fin 5760) (n : BitVec 32) (s : ℕ) (hs : n = BitVec.ofNat 32 s) (h : s < 5760) (a b : EReal) :
    Scalar.select (IntOp.cmpi .slt (BitVec.ofNat 32 l.val) n) a b = if l.val < s then a else b := by
  subst hs
  have h1 : (BitVec.ofNat 32 l.val).toInt = l.val := by
    rw [BitVec.toInt_eq_toNat_of_lt (by rw [BitVec.toNat_ofNat]; omega), BitVec.toNat_ofNat]; omega
  have h2 : (BitVec.ofNat 32 s).toInt = s := by
    rw [BitVec.toInt_eq_toNat_of_lt (by rw [BitVec.toNat_ofNat]; omega), BitVec.toNat_ofNat]; omega
  unfold IntOp.cmpi Scalar.select
  simp only [BitVec.slt, h1, h2, Nat.cast_lt]
  by_cases hc : l.val < s <;> simp [hc]

/-- Row `q` of group `r` of the block. -/
def brow (r : Fin 9) (q : Fin 8) : Fin 72 := ⟨r.val * 8 + q.val, by omega⟩

/-- The sum over lanes times the gain of the aggregation. -/
theorem lanes (s : EReal) (v0 v1 v2 v3 : FVec Ideal S72x5760 .f32) (r : Fin 9) (q : Fin 8) (l : Fin 5760) :
    k0_pay45 s v0 v1 v2 v3 (iota .tc S72x5760 32 [1] iota_S72x5760_d1_w32) k0_pay43 (ix3 r q l)
      = (v0 (ix2 (brow r q) l)
        + (if 3 ≤ l.val then v1 (ix2 (brow r q) ⟨(l.val + 5760 - 3) % 5760, Nat.mod_lt _ (by decide)⟩) else 0)
        + (if l.val < 5757 then v1 (ix2 (brow r q) ⟨(l.val + 5760 - 5757) % 5760, Nat.mod_lt _ (by decide)⟩) else 0)
        + (if 6 ≤ l.val then v2 (ix2 (brow r q) ⟨(l.val + 5760 - 6) % 5760, Nat.mod_lt _ (by decide)⟩) else 0)
        + (if l.val < 5754 then v2 (ix2 (brow r q) ⟨(l.val + 5760 - 5754) % 5760, Nat.mod_lt _ (by decide)⟩) else 0)
        + (if 9 ≤ l.val then v3 (ix2 (brow r q) ⟨(l.val + 5760 - 9) % 5760, Nat.mod_lt _ (by decide)⟩) else 0)
        + (if l.val < 5751 then v3 (ix2 (brow r q) ⟨(l.val + 5760 - 5751) % 5760, Nat.mod_lt _ (by decide)⟩) else 0)) * s := by
  unfold k0_pay45 k0_pay43
  dsimp only
  generalize h1 : dynamicRotate 1 3#32 none v1 rotates_S72x5760_d1 = w1
  generalize h2 : dynamicRotate 1 5757#32 none v1 rotates_S72x5760_d1 = w2
  generalize h3 : dynamicRotate 1 6#32 none v2 rotates_S72x5760_d1 = w3
  generalize h4 : dynamicRotate 1 5754#32 none v2 rotates_S72x5760_d1 = w4
  generalize h5 : dynamicRotate 1 9#32 none v3 rotates_S72x5760_d1 = w5
  generalize h6 : dynamicRotate 1 5751#32 none v3 rotates_S72x5760_d1 = w6
  pointwise
  simp only [← h1, ← h2, ← h3, ← h4, ← h5, ← h6]
  rw [roll_apply 3#32 3 rfl (by decide), roll_apply 5757#32 5757 rfl (by decide), roll_apply 6#32 6 rfl (by decide),
    roll_apply 5754#32 5754 rfl (by decide), roll_apply 9#32 9 rfl (by decide), roll_apply 5751#32 5751 rfl (by decide),
    sel_ge l 3#32 3 rfl (by decide), sel_ge l 6#32 6 rfl (by decide), sel_ge l 9#32 9 rfl (by decide),
    sel_lt l 5757#32 5757 rfl (by decide), sel_lt l 5754#32 5754 rfl (by decide), sel_lt l 5751#32 5751 rfl (by decide)]
  rfl

/-- The column of the blur at distance `k` across: what seven rows about `y` give from column `x`. -/
def colZ (e k : Fin 1080 → Fin 1920 → EReal) (b : ℕ) (y x : ℤ) : EReal :=
  ∑ a : Fin 7, mz e k ((a : ℤ) - 3).natAbs b (y + ((a : ℤ) - 3)) x

/-- A column outside the image gives nothing. -/
theorem colZ_out (e k : Fin 1080 → Fin 1920 → EReal) (b : ℕ) (y x : ℤ) (h : x < 0 ∨ 1920 ≤ x) : colZ e k b y x = 0 :=
  Finset.sum_eq_zero fun a _ => by
    unfold mz
    rw [dif_neg (by omega)]

/-- The blur as the kernel adds it: the middle column, then the two at each distance. -/
theorem blur_cols (e k : Fin 1080 → Fin 1920 → EReal) (y x : ℤ) : blur e k y x =
    colZ e k 0 y x + colZ e k 1 y (x - 1) + colZ e k 1 y (x + 1) + colZ e k 2 y (x - 2) + colZ e k 2 y (x + 2)
      + colZ e k 3 y (x - 3) + colZ e k 3 y (x + 3) := by
  have : blur e k y x = colZ e k 3 y (x - 3) + colZ e k 2 y (x - 2) + colZ e k 1 y (x - 1) + colZ e k 0 y (x + 0)
      + colZ e k 1 y (x + 1) + colZ e k 2 y (x + 2) + colZ e k 3 y (x + 3) := by
    unfold blur
    rw [Fin.sum_univ_seven]
    rfl
  rw [this, add_zero]
  abel

/-- The channel of a lane. -/
def chan (l : ℕ) : Fin 3 := ⟨l % 3, Nat.mod_lt _ (by decide)⟩

section

variable (E : Fin 3 → Fin 1080 → Fin 1920 → EReal) (K : Fin 1080 → Fin 1920 → EReal)

/-- A rotation to the right, its wrapped lanes masked, reads the column `d` before. -/
theorem lane_left (b : ℕ) (y : ℤ) (l : Fin 5760) (s d : ℕ) (hs : s = 3 * d) (hd : 0 < d) (hd' : d ≤ 3) :
    (if s ≤ l.val then colZ (E (chan ((l.val + 5760 - s) % 5760))) K b y (((l.val + 5760 - s) % 5760 / 3 : ℕ) : ℤ) else 0)
      = colZ (E (chan l.val)) K b y (((l.val / 3 : ℕ) : ℤ) - d) := by
  by_cases h : s ≤ l.val
  · have e1 : chan ((l.val + 5760 - s) % 5760) = chan l.val := Fin.ext (show _ % 3 = _ % 3 by omega)
    have e2 : (((l.val + 5760 - s) % 5760 / 3 : ℕ) : ℤ) = ((l.val / 3 : ℕ) : ℤ) - d := by omega
    rw [if_pos h, e1, e2]
  · rw [if_neg h, colZ_out _ _ _ _ _ (by omega)]

/-- A rotation to the left, its wrapped lanes masked, reads the column `d` after. -/
theorem lane_right (b : ℕ) (y : ℤ) (l : Fin 5760) (s d : ℕ) (hs : s + 3 * d = 5760) (hd : 0 < d) (hd' : d ≤ 3) :
    (if l.val < s then colZ (E (chan ((l.val + 5760 - s) % 5760))) K b y (((l.val + 5760 - s) % 5760 / 3 : ℕ) : ℤ) else 0)
      = colZ (E (chan l.val)) K b y (((l.val / 3 : ℕ) : ℤ) + d) := by
  by_cases h : l.val < s
  · have e1 : chan ((l.val + 5760 - s) % 5760) = chan l.val := Fin.ext (show _ % 3 = _ % 3 by omega)
    have e2 : (((l.val + 5760 - s) % 5760 / 3 : ℕ) : ℤ) = ((l.val / 3 : ℕ) : ℤ) + d := by omega
    rw [if_pos h, e1, e2]
  · rw [if_neg h, colZ_out _ _ _ _ _ (by omega)]

/-- Where the block's rows are those of the image about row `y0`, the body's sum is the blur times the gain. -/
theorem blur_block (y0 : ℤ) (e v g0 g1 g2 : FVec Ideal S11x8x5760 .f32) (h0 : ∀ j, g0 j = gsel 0 (v j))
    (h1 : ∀ j, g1 j = gsel 1 (v j)) (h2 : ∀ j, g2 j = gsel 2 (v j))
    (H : ∀ (n : ℕ) (h5 : 5 ≤ n) (hn : n < 12) (r : Fin 72) (l : Fin 5760) (a b : ℕ),
      mg a b (e (cell n (by omega) r l)) (v (cell n (by omega) r l))
        = mz (E (chan l.val)) K a b (y0 + r.val + (n - 8)) ((l.val / 3 : ℕ) : ℤ))
    (s : EReal) (r : Fin 9) (q : Fin 8) (l : Fin 5760) :
    k0_pay45 s
      (k0_pay39 (k0_pay30 e g0) (k0_pay31 e g0 g1) (k0_pay32 e g0 g2) (k0_pay33 e v g0 k0_pay22 (k0_pay23 v) k0_pay24))
      (k0_pay40 (k0_pay31 e g0 g1) (k0_pay34 e g1) (k0_pay35 e g1 g2) (k0_pay36 e v g1 k0_pay22 (k0_pay23 v) k0_pay24))
      (k0_pay41 (k0_pay25 v k0_pay22 (k0_pay23 v) k0_pay24) (k0_pay28 e g2) (k0_pay32 e g0 g2) (k0_pay35 e g1 g2)
        (k0_pay37 e g2))
      (k0_pay42 (k0_pay25 v k0_pay22 (k0_pay23 v) k0_pay24) (k0_pay28 e g2) (k0_pay29 e v k0_pay22 (k0_pay23 v) k0_pay24)
        (k0_pay33 e v g0 k0_pay22 (k0_pay23 v) k0_pay24) (k0_pay36 e v g1 k0_pay22 (k0_pay23 v) k0_pay24))
      (iota .tc S72x5760 32 [1] iota_S72x5760_d1_w32) k0_pay43 (ix3 r q l)
      = blur (E (chan l.val)) K (y0 + (brow r q).val) ((l.val / 3 : ℕ) : ℤ) * s := by
  have hv : ∀ (k : ℕ) (r : Fin 72) (l : Fin 5760),
      vs e v k r l = colZ (E (chan l.val)) K k (y0 + r.val) ((l.val / 3 : ℕ) : ℤ) := fun k r l =>
    Finset.sum_congr rfl fun a _ => by
      rw [H (5 + a.val) (by omega) (by omega)]
      congr 2
      push_cast
      ring
  rw [lanes]
  simp only [col0 e v g0 g1 g2 h0 h1 h2, col1 e v g0 g1 g2 h0 h1 h2, col2 e v g0 g1 g2 h0 h1 h2,
    col3 e v g0 g1 g2 h0 h1 h2, hv]
  rw [lane_left E K 1 _ l 3 1 rfl (by decide) (by decide), lane_left E K 2 _ l 6 2 rfl (by decide) (by decide),
    lane_left E K 3 _ l 9 3 rfl (by decide) (by decide), lane_right E K 1 _ l 5757 1 rfl (by decide) (by decide),
    lane_right E K 2 _ l 5754 2 rfl (by decide) (by decide), lane_right E K 3 _ l 5751 3 rfl (by decide) (by decide),
    blur_cols]
  rfl

end

end Cert.Camera

end
-- ==== Proof.Electrons.lean ====
/- What the body computes at one index of its block: the electrons and kernel sizes of its 88 rows, and the read-out. -/
module

public import proofs.«01_k».proof.Proof.Blur

@[expose] public section

noncomputable section

namespace Cert.Camera

open Idealize.ShloMosaic Cert.KernelIdeal Cert.KernelIdeal.Gen

/-- Row `h` of the 88: eight above, seventy-two, eight below. -/
def pickRow (xt : FVec Ideal S8x5760 .f32) (xc : FVec Ideal S72x5760 .f32) (xb : FVec Ideal S8x5760 .f32) (h : ℕ)
    (hh : h < 88) (l : Fin 5760) : EReal :=
  if h8 : h < 8 then xt (ix2 ⟨h, h8⟩ l) else if h80 : h - 8 < 72 then xc (ix2 ⟨h - 8, h80⟩ l)
  else xb (ix2 ⟨h - 8 - 72, by omega⟩ l)

/-- A product with the named step is a quotient by the half width. -/
theorem mul_ihw (x : EReal) : x * (Named.named κ "inv_half_width" 0x3A888889#32 : Ideal .f32)
    = Ideal.div x (Ideal.ofBits .f32 0x44700000#32) := by
  rw [ihw, c_960]
  unfold Ideal.div
  rw [if_neg (by exact_mod_cast (by norm_num : (960 : ℝ) ≠ 0)), ← EReal.coe_inv]
  norm_num

/-- The first row of a block, less eight, as a word. -/
theorem row_word : ∀ t : Fin 15, (Scalar.subi (Scalar.muli (BitVec.ofNat 32 t.val) 72#32) 8#32).toInt = 72 * (t.val : ℤ) - 8 := by
  decide +kernel

/-- A row number as a float. -/
theorem row_float (t : Fin 15) (h y : ℕ) (hh : h < 88) (hy : y + 8 = 72 * t.val + h) :
    (FloatOps.sitofp (F := Ideal) .f32 (BitVec.ofNat 32 h) : EReal)
      + (((Scalar.subi (Scalar.muli (BitVec.ofNat 32 t.val) 72#32) 8#32).toInt : ℝ) : EReal) = ((y : ℝ) : EReal) := by
  have h1 : (BitVec.ofNat 32 h).toInt = h := by
    rw [BitVec.toInt_eq_toNat_of_lt (by rw [BitVec.toNat_ofNat]; omega), BitVec.toNat_ofNat]; omega
  show ((((BitVec.ofNat 32 h).toInt : ℝ)) : EReal) + _ = _
  rw [row_word, h1, ← EReal.coe_add]
  congr 1
  have : (y : ℝ) + 8 = 72 * t.val + h := by exact_mod_cast hy
  push_cast
  linarith

/-- The electrons at row `n + r`, lane `l`, of block `t`. -/
theorem elec_cell (t : Fin 15) (vg qe : EReal) (v4 v6 : FVec Ideal S1x8x5760 .f32) (xt xb : FVec Ideal S8x5760 .f32)
    (xc : Vec Ideal S72x5760 .f32) (n : ℕ) (hn : n < 17) (r : Fin 72) (l : Fin 5760)
    (h4 : ∀ q, v4 (ix3 0 q l) = qe)
    (h6 : ∀ q, v6 (ix3 0 q l) = pos (l.val / 3) (Ideal.ofBits .f32 0x446FE000#32) * pos (l.val / 3) (Ideal.ofBits .f32 0x446FE000#32)) :
    ∃ W : EReal, k0_pay11 (BitVec.ofNat 32 t.val) vg v4 v6 xt xb xc (cell n hn r l)
        = pickRow xt xc xb (n + r.val) (by omega) l * W
      ∧ ∀ y, y + 8 = 72 * t.val + (n + r.val) → W = qe * ((Ideal.rsqrt (den vg y (l.val / 3)) * Ideal.rsqrt (den vg y (l.val / 3)))
          * (Ideal.rsqrt (den vg y (l.val / 3)) * Ideal.rsqrt (den vg y (l.val / 3)))) := by
  refine ⟨?_, ?_, ?_⟩
  rotate_left
  · unfold cell
    pointwise [k0_pay11]
    simp only [h4, h6, Nat.div_add_mod', mul_ihw]
    rfl
  · intro y hy
    rw [row_float t (n + r.val) y (by omega) hy]
    rfl

/-- The kernel size there. -/
theorem size_cell (xt xb : Vec Ideal S8x5760 .f32) (xc : Vec Ideal S72x5760 .f32) (n : ℕ) (hn : n < 17) (r : Fin 72)
    (l : Fin 5760) : k0_pay12 xt xc xb (cell n hn r l) = pickRow xt xc xb (n + r.val) (by omega) l := by
  unfold cell
  pointwise [k0_pay12]
  simp only [Nat.div_add_mod']
  rfl

/-- The rows above: none at the first block. -/
theorem top_apply (i : grid0.Coords) (t : Fin 15) (ht : (i 0).val = t.val) (x : Vec Ideal S8x5760 .f32) (q : Fin 8) (l : Fin 5760) :
    k0_pay9 i x (ix2 q l) = if 0 < t.val then x (ix2 q l) else 0 := by
  pointwise [k0_pay9]
  rw [ht]
  have : ∀ t : Fin 15, Scalar.cmpi .sgt (BitVec.ofNat 32 t.val) 0#32 = if 0 < t.val then 1#1 else 0#1 := by decide +kernel
  rw [this t]
  by_cases h : 0 < t.val
  · rw [if_pos h, if_pos h]; rfl
  · rw [if_neg h, if_neg h]; rfl

/-- The rows below: none at the last block. -/
theorem bot_apply (i : grid0.Coords) (t : Fin 15) (ht : (i 0).val = t.val) (x : Vec Ideal S8x5760 .f32) (q : Fin 8) (l : Fin 5760) :
    k0_pay10 i x (ix2 q l) = if t.val < 14 then x (ix2 q l) else 0 := by
  pointwise [k0_pay10]
  rw [ht]
  have : ∀ t : Fin 15, Scalar.cmpi .slt (BitVec.ofNat 32 t.val) 14#32 = if t.val < 14 then 1#1 else 0#1 := by decide +kernel
  rw [this t]
  by_cases h : t.val < 14
  · rw [if_pos h, if_pos h]; rfl
  · rw [if_neg h, if_neg h]; rfl

/-- The image's electrons by channel. -/
def elecs (I : Fin 1080 → Fin 1920 → Fin 3 → EReal) (qe : Fin 3 → EReal) (vg : EReal) (c : Fin 3) (y : Fin 1080)
    (x : Fin 1920) : EReal :=
  elec (I y x c) (qe c) vg y.val x.val

/-- The column of a lane. -/
def lcol (l : Fin 5760) : Fin 1920 := ⟨l.val / 3, by omega⟩

/-- The rows of a window of the block at `t`: those of the image, where there are any. -/
structure Rows (A : Fin 1080 → Fin 5760 → EReal) (t : Fin 15) (xt : Vec Ideal S8x5760 .f32) (xc : Vec Ideal S72x5760 .f32)
    (xb : Vec Ideal S8x5760 .f32) : Prop where
  top : ∀ (q : Fin 8) (l : Fin 5760) (y : Fin 1080), y.val + 8 = 72 * t.val + q.val → xt (ix2 q l) = A y l
  mid : ∀ (r : Fin 72) (l : Fin 5760) (y : Fin 1080), y.val = 72 * t.val + r.val → xc (ix2 r l) = A y l
  bot : ∀ (q : Fin 8) (l : Fin 5760) (y : Fin 1080), y.val = 72 * t.val + 72 + q.val → xb (ix2 q l) = A y l

/-- So each of the 88 rows that lies in the image is the image's. -/
theorem Rows.pick {A : Fin 1080 → Fin 5760 → EReal} {t : Fin 15} {xt : Vec Ideal S8x5760 .f32} {xc : Vec Ideal S72x5760 .f32}
    {xb : Vec Ideal S8x5760 .f32} (H : Rows A t xt xc xb) (h : ℕ) (hh : h < 88) (l : Fin 5760) (y : Fin 1080)
    (hy : y.val + 8 = 72 * t.val + h) : pickRow xt xc xb h hh l = A y l := by
  unfold pickRow
  split_ifs with h8 h80
  · exact H.top _ _ _ hy
  · exact H.mid _ _ _ (show y.val = 72 * t.val + (h - 8) by omega)
  · exact H.bot _ _ _ (show y.val = 72 * t.val + 72 + (h - 8 - 72) by omega)

/-- What a source row of the block gives: that of the image, nothing outside. -/
theorem source_cell (i : grid0.Coords) (t : Fin 15) (ht : (i 0).val = t.val) (vg : EReal) (hv : 0 ≤ vg)
    (I : Fin 1080 → Fin 1920 → Fin 3 → EReal) (qe : Fin 3 → EReal) (K : Fin 1080 → Fin 1920 → EReal)
    (v4 v6 : FVec Ideal S1x8x5760 .f32) (xt xb kt kb : Vec Ideal S8x5760 .f32) (xc kc : Vec Ideal S72x5760 .f32)
    (h4 : ∀ q l, v4 (ix3 0 q l) = qe (chan l.val))
    (h6 : ∀ q l, v6 (ix3 0 q l) = pos (l.val / 3) (Ideal.ofBits .f32 0x446FE000#32) * pos (l.val / 3) (Ideal.ofBits .f32 0x446FE000#32))
    (HI : Rows (fun y l => I y (lcol l) (chan l.val)) t xt xc xb) (HK : Rows (fun y l => K y (lcol l)) t kt kc kb)
    (n : ℕ) (h5 : 5 ≤ n) (hn : n < 12) (r : Fin 72) (l : Fin 5760) (a b : ℕ) :
    mg a b (k0_pay11 (BitVec.ofNat 32 t.val) vg v4 v6 (k0_pay9 i xt) (k0_pay10 i xb) xc (cell n (by omega) r l))
        (k0_pay12 kt kc kb (cell n (by omega) r l))
      = mz (elecs I qe vg (chan l.val)) K a b ((72 * t.val : ℕ) + r.val + (n - 8)) ((l.val / 3 : ℕ) : ℤ) := by
  obtain ⟨W, hW, hWy⟩ := elec_cell t vg (qe (chan l.val)) v4 v6 (k0_pay9 i xt) (k0_pay10 i xb) xc n (by omega) r l
    (fun q => h4 q l) (fun q => h6 q l)
  rw [hW, size_cell]
  unfold mz
  by_cases hin : (0 ≤ ((72 * t.val : ℕ) : ℤ) + r.val + (n - 8) ∧ ((72 * t.val : ℕ) : ℤ) + r.val + (n - 8) < 1080)
      ∧ (0 ≤ ((l.val / 3 : ℕ) : ℤ) ∧ ((l.val / 3 : ℕ) : ℤ) < 1920)
  · rw [dif_pos hin]
    have hy : (((72 * t.val : ℕ) : ℤ) + r.val + (n - 8)).toNat + 8 = 72 * t.val + (n + r.val) := by omega
    have ex : (⟨((l.val / 3 : ℕ) : ℤ).toNat, by omega⟩ : Fin 1920) = lcol l := Fin.ext (show ((l.val / 3 : ℕ) : ℤ).toNat = l.val / 3 by omega)
    rw [ex, HK.pick _ _ l ⟨(((72 * t.val : ℕ) : ℤ) + r.val + (n - 8)).toNat, by omega⟩ hy, hWy _ hy]
    congr 1
    have hI : pickRow (k0_pay9 i xt) xc (k0_pay10 i xb) (n + r.val) (by omega) l
        = I ⟨(((72 * t.val : ℕ) : ℤ) + r.val + (n - 8)).toNat, by omega⟩ (lcol l) (chan l.val) := by
      rw [← HI.pick (n + r.val) (by omega) l ⟨(((72 * t.val : ℕ) : ℤ) + r.val + (n - 8)).toNat, by omega⟩ hy]
      unfold pickRow
      split_ifs with h8 h80
      · rw [top_apply i t ht, if_pos (by omega)]
      · rfl
      · rw [bot_apply i t ht, if_pos (by omega)]
    rw [hI, elec_eq _ _ _ _ _ hv]
    rfl
  · rw [dif_neg hin]
    have h0 : pickRow (k0_pay9 i xt) xc (k0_pay10 i xb) (n + r.val) (by omega) l = 0 := by
      unfold pickRow
      split_ifs with h8 h80
      · rw [top_apply i t ht, if_neg (by omega)]
      · exact absurd (by omega) hin
      · rw [bot_apply i t ht, if_neg (by omega)]
    rw [h0, zero_mul]
    unfold mg
    rw [zero_mul]

/-- The read-out at row `r`, lane `l`, of the block. -/
theorem readout_apply (ig : EReal) (d ng sd eg ebi : Vec Ideal S1x8x5760 .f32) (nb : Vec Ideal S72x5760 .f32)
    (f : FVec Ideal S9x8x5760 .f32) (r : Fin 72) (l : Fin 5760) :
    k0_pay1 ig (k0_pay4 d) (k0_pay5 ng) (k0_pay6 sd) (k0_pay7 eg) (k0_pay8 ebi) (k0_pay44 nb) f
        (Scalar.ofBits .f32 0x358637BD#32) (ix2 r l)
      = readoutK (f (ix3 ⟨r.val / 8, by omega⟩ ⟨r.val % 8, by omega⟩ l)) (d (ix3 0 ⟨r.val % 8, by omega⟩ l))
          (ng (ix3 0 ⟨r.val % 8, by omega⟩ l)) (sd (ix3 0 ⟨r.val % 8, by omega⟩ l)) (eg (ix3 0 ⟨r.val % 8, by omega⟩ l))
          (ebi (ix3 0 ⟨r.val % 8, by omega⟩ l)) ig (nb (ix2 r l)) := by
  pointwise [k0_pay1, k0_pay4, k0_pay5, k0_pay6, k0_pay7, k0_pay8, k0_pay44]
  rfl

end Cert.Camera

end
-- ==== Proof.Body.lean ====
/- What one block's run leaves in the output: the stored value as a function of the blocks read, and that value at an
   index. -/
module

public import proofs.«01_k».proof.Proof.Electrons
public import proofs.«01_k».proof.Proof.Gen.KernelIdeal.Value

@[expose] public section

noncomputable section

namespace Cert.Camera

open Cert.KernelIdeal Cert.KernelIdeal.Gen Cert.KernelIdeal.Value Idealize.ShloMosaic Idealize.ShloMosaic.TcCoe Idealize.SL.Sem

section

variable {F : FTy → Type} [FloatOps F] [Named F]

/-- The block stored, of the blocks read. -/
def bodyOut (i : grid0.Coords) (vg s ig : Elt F .f32) (qe xx d ng sd eg ebi : Vec F S1x8x5760 .f32)
    (xc : Vec F S72x5760 .f32) (xt xb : Vec F S8x5760 .f32) (kc : Vec F S72x5760 .f32) (kt kb : Vec F S8x5760 .f32)
    (nb : Vec F S72x5760 .f32) : Vec F S72x5760 .f32 :=
  let e := k0_pay11 (BitVec.ofNat 32 (i 0).val) vg (k0_pay2 qe) (k0_pay3 xx) (k0_pay9 i xt) (k0_pay10 i xb) xc
  let v := k0_pay12 kt kc kb
  let g0 := k0_pay16 v k0_pay13 (k0_pay14 kt kc kb) k0_pay15
  let g1 := k0_pay19 v k0_pay17 (k0_pay18 v)
  let g2 := k0_pay21 v k0_pay20 (Scalar.ofBits .f32 0x40D00000#32)
  let g3 := k0_pay25 v k0_pay22 (k0_pay23 v) k0_pay24
  let w1 := k0_pay31 e g0 g1
  let w2 := k0_pay32 e g0 g2
  let w3 := k0_pay33 e v g0 k0_pay22 (k0_pay23 v) k0_pay24
  let w5 := k0_pay35 e g1 g2
  let w6 := k0_pay36 e v g1 k0_pay22 (k0_pay23 v) k0_pay24
  k0_pay1 ig (k0_pay4 d) (k0_pay5 ng) (k0_pay6 sd) (k0_pay7 eg) (k0_pay8 ebi) (k0_pay44 nb)
    (k0_pay45 s (k0_pay39 (k0_pay30 e g0) w1 w2 w3) (k0_pay40 w1 (k0_pay34 e g1) w5 w6)
      (k0_pay41 g3 (k0_pay28 e g2) w2 w5 (k0_pay37 e g2))
      (k0_pay42 g3 (k0_pay28 e g2) (k0_pay29 e v k0_pay22 (k0_pay23 v) k0_pay24) w3 w6)
      (iota .tc S72x5760 32 [1] iota_S72x5760_d1_w32) k0_pay43)
    (Scalar.ofBits .f32 0x358637BD#32)

/-- Plane `k` of the parameters. -/
def plane (p : Vec F S7x8x5760 .f32) (k : Fin 7) : Vec F S1x8x5760 .f32 := fun j => p (ix3 k (j 1) (j 2))

/-- A load of one plane of the parameters is that plane. -/
theorem ld_plane (p : Vec F S7x8x5760 .f32) (k : Fin 7) (inb : ∀ a, (![k.val, 0, 0] : Fin 3 → ℕ) a + (![1, 8, 5760] : Fin 3 → ℕ) a ≤ S7x8x5760.size a) :
    View.ld p (Rect.unit (s := S7x8x5760) ![k.val, 0, 0] ![1, 8, 5760] inb) = plane p k := by
  funext j
  refine congrArg p (funext fun a => Fin.ext ?_)
  match a with
  | ⟨0, _⟩ =>
    have : (j 0).val < 1 := (j 0).isLt
    show k.val + 1 * (j 0).val = k.val
    omega
  | ⟨1, _⟩ => show 0 + 1 * (j 1).val = (j 1).val; omega
  | ⟨2, _⟩ => show 0 + 1 * (j 2).val = (j 2).val; omega

/-- The pair of zeros is the function zero. -/
theorem hz : (![0, 0] : Fin 2 → Nat) = fun _ => 0 := funext fun a => by fin_cases a <;> rfl

/-- A load of the whole of a block of 72 rows. -/
theorem ld_72 (x : Vec F S72x5760 .f32) (inb : ∀ a, (![0, 0] : Fin 2 → ℕ) a + (![72, 5760] : Fin 2 → ℕ) a ≤ S72x5760.size a) :
    View.ld x (Rect.unit (s := S72x5760) ![0, 0] ![72, 5760] inb) = x := View.ld_unit_zero (S := S72x5760) hz _ _

/-- … of 8 rows. -/
theorem ld_8 (x : Vec F S8x5760 .f32) (inb : ∀ a, (![0, 0] : Fin 2 → ℕ) a + (![8, 5760] : Fin 2 → ℕ) a ≤ S8x5760.size a) :
    View.ld x (Rect.unit (s := S8x5760) ![0, 0] ![8, 5760] inb) = x := View.ld_unit_zero (S := S8x5760) hz _ _

/-- A scalar load of word `k`. -/
theorem ld_word (p : Vec F S3 .f32) (k : Fin 3) (inb : ∀ a, (![k.val] : Fin 1 → ℕ) a + (![1] : Fin 1 → ℕ) a ≤ S3.size a)
    (j : (Rect.unit (s := S3) ![k.val] ![1] inb).shape.Idx) : View.ld p (Rect.unit (s := S3) ![k.val] ![1] inb) j = p (ix1 k) := by
  refine congrArg p (funext fun a => Fin.ext ?_)
  match a with
  | ⟨0, _⟩ =>
    have : (j 0).val < 1 := (j 0).isLt
    show k.val + 1 * (j 0).val = k.val
    omega

variable (m : (ℓ : Loc nD τ sig) → Buf (Elt F) ℓ)

/-- What the run of block `t` leaves in the output's staging buffer. -/
theorem outs_eq (c : Dev nD) (t : Fin cfg0.N) : outsAt0 m c t =
    bodyOut (grid0.coords t) (iblk m c 0 t (ix1 (0 : Fin 3))) (iblk m c 0 t (ix1 (1 : Fin 3))) (iblk m c 0 t (ix1 (2 : Fin 3)))
      (plane (iblk m c 1 t) 0) (plane (iblk m c 1 t) 1) (plane (iblk m c 1 t) 2) (plane (iblk m c 1 t) 3)
      (plane (iblk m c 1 t) 4) (plane (iblk m c 1 t) 5) (plane (iblk m c 1 t) 6)
      (iblk m c 2 t) (iblk m c 3 t) (iblk m c 4 t) (iblk m c 5 t) (iblk m c 6 t) (iblk m c 7 t) (iblk m c 8 t) := by
  unfold outsAt0 out0_A_9
  rw [View.read_writes_eq_canon _ _ _ (cover0_A_9 c _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  rw [← ld_word (iblk m c 0 t) 0 inb_S3_S1_0, ← ld_word (iblk m c 0 t) 1 inb_S3_S1_1, ← ld_word (iblk m c 0 t) 2 inb_S3_S1_2,
    ← ld_plane (iblk m c 1 t) 0 inb_S7x8x5760_S1x8x5760_0_0_0, ← ld_plane (iblk m c 1 t) 1 inb_S7x8x5760_S1x8x5760_1_0_0,
    ← ld_plane (iblk m c 1 t) 2 inb_S7x8x5760_S1x8x5760_2_0_0, ← ld_plane (iblk m c 1 t) 3 inb_S7x8x5760_S1x8x5760_3_0_0,
    ← ld_plane (iblk m c 1 t) 4 inb_S7x8x5760_S1x8x5760_4_0_0, ← ld_plane (iblk m c 1 t) 5 inb_S7x8x5760_S1x8x5760_5_0_0,
    ← ld_plane (iblk m c 1 t) 6 inb_S7x8x5760_S1x8x5760_6_0_0]
  refine (View.canon_unit_zero (S := S72x5760) hz _ _).trans ?_
  simp only [ld_72, ld_8]
  rfl

end

/-- The block stored, at row `r` and lane `l`: the read-out of the blurred electrons. -/
theorem body_apply (i : grid0.Coords) (t : Fin 15) (ht : (i 0).val = t.val) (vg s ig : EReal) (hv : 0 ≤ vg)
    (I : Fin 1080 → Fin 1920 → Fin 3 → EReal) (qeF : Fin 3 → EReal) (K : Fin 1080 → Fin 1920 → EReal)
    (qe xx d ng sd eg ebi : Vec Ideal S1x8x5760 .f32)
    (xc : Vec Ideal S72x5760 .f32) (xt xb : Vec Ideal S8x5760 .f32) (kc : Vec Ideal S72x5760 .f32) (kt kb : Vec Ideal S8x5760 .f32)
    (nb : Vec Ideal S72x5760 .f32)
    (h4 : ∀ q l, qe (ix3 0 q l) = qeF (chan l.val))
    (h6 : ∀ q l, xx (ix3 0 q l) = pos (l.val / 3) (Ideal.ofBits .f32 0x446FE000#32) * pos (l.val / 3) (Ideal.ofBits .f32 0x446FE000#32))
    (HI : Rows (fun y l => I y (lcol l) (chan l.val)) t xt xc xb) (HK : Rows (fun y l => K y (lcol l)) t kt kc kb)
    (r : Fin 72) (l : Fin 5760) :
    bodyOut i vg s ig qe xx d ng sd eg ebi xc xt xb kc kt kb nb (ix2 r l)
      = readoutK (blur (elecs I qeF vg (chan l.val)) K ((72 * t.val : ℕ) + (r.val : ℤ)) ((l.val / 3 : ℕ) : ℤ) * s)
          (d (ix3 0 ⟨r.val % 8, by omega⟩ l)) (ng (ix3 0 ⟨r.val % 8, by omega⟩ l)) (sd (ix3 0 ⟨r.val % 8, by omega⟩ l))
          (eg (ix3 0 ⟨r.val % 8, by omega⟩ l)) (ebi (ix3 0 ⟨r.val % 8, by omega⟩ l)) ig (nb (ix2 r l)) := by
  unfold bodyOut
  dsimp only
  rw [readout_apply, blur_block (elecs I qeF vg) K (72 * t.val : ℕ) _ _ _ _ _ (g0_apply kt kc kb) (g1_apply _) (g2_apply _)]
  · have : (brow ⟨r.val / 8, by omega⟩ ⟨r.val % 8, by omega⟩).val = r.val := Nat.div_add_mod' _ _
    rw [this]
  · intro n h5 hn r l a b
    rw [ht]
    refine source_cell i t ht vg hv I qeF K _ _ xt xb kt kb xc kc ?_ ?_ HI HK n h5 hn r l a b
    · intro q l
      rw [← h4 q l]
      pointwise [k0_pay2]
    · intro q l
      rw [← h6 q l]
      pointwise [k0_pay3]

end Cert.Camera

end
-- ==== Proof.Host.lean ====
/- The arrays that the host operations leave for the kernel's windows, at an index, as functions of the arguments. -/
module

public import proofs.«01_k».proof.Proof.Body
public import Idealize.ShloMosaic.Lib.StableHlo.RunRead
public import Idealize.ShloMosaic.Lib.Tactic.CleanTypes

@[expose] public section

noncomputable section

namespace Cert.Camera

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The image, flattened. -/
theorem img_apply (y : Fin 1080) (l : Fin 5760) :
    (V m c main_v0 : Vec Ideal S1080x5760 .f32) (ix2 y l)
      = (m ((c : Thread nD τ).loc main_arg0) : Vec Ideal S1080x1920x3 .f32) (ix3 y (lcol l) (chan l.val)) := by
  unfold_abbrev_sides
  after_reads_simp
  clean_types
  pointwise
  rfl

/-- The noise, flattened. -/
theorem noise_apply (y : Fin 1080) (l : Fin 5760) :
    (V m c main_v1 : Vec Ideal S1080x5760 .f32) (ix2 y l)
      = (m ((c : Thread nD τ).loc main_arg2) : Vec Ideal S1080x1920x3 .f32) (ix3 y (lcol l) (chan l.val)) := by
  unfold_abbrev_sides
  after_reads_simp
  clean_types
  pointwise
  rfl

/-- The kernel sizes as floats, one per lane. -/
theorem size_apply (y : Fin 1080) (l : Fin 5760) :
    (V m c main_v4 : Vec Ideal S1080x5760 .f32) (ix2 y l)
      = ((((m ((c : Thread nD τ).loc main_arg1) : Vec Ideal S1080x1920 .i32) (ix2 y (lcol l)) : BitVec 32).toInt : ℝ) : EReal) := by
  unfold_abbrev_sides
  after_reads_simp
  clean_types
  pointwise
  rfl

/-- A coordinate from the centre of the columns, its number a word read as a float. -/
theorem pos_word (n : ℕ) (hn : n < 1920) :
    Ideal.div (FloatOps.sitofp (F := Ideal) .f32 (BitVec.ofNat 32 n) - Ideal.ofBits .f32 0x446FE000#32) (Ideal.ofBits .f32 0x44700000#32)
      = pos n (Ideal.ofBits .f32 0x446FE000#32) := by
  have h1 : (BitVec.ofNat 32 n).toInt = n := by
    rw [BitVec.toInt_eq_toNat_of_lt (by rw [BitVec.toNat_ofNat]; omega), BitVec.toNat_ofNat]; omega
  show Ideal.div (((((BitVec.ofNat 32 n).toInt : ℝ)) : EReal) - _) _ = _
  rw [h1]
  rfl

/-- The stacked rows of the parameters at a lane: a value per channel, but for the second, the squared column coordinate. -/
theorem plane_apply (k : Fin 7) (q : Fin 8) (l : Fin 5760) : (V m c main_v40 : Vec Ideal S7x8x5760 .f32) (ix3 k q l)
    = (![(m ((c : Thread nD τ).loc main_arg3) : Vec Ideal S3 .f32) (ix1 (chan l.val)),
        pos (l.val / 3) (Ideal.ofBits .f32 0x446FE000#32) * pos (l.val / 3) (Ideal.ofBits .f32 0x446FE000#32),
        (m ((c : Thread nD τ).loc main_arg6) : Vec Ideal S3 .f32) (ix1 (chan l.val)),
        (m ((c : Thread nD τ).loc main_arg7) : Vec Ideal S3 .f32) (ix1 (chan l.val)),
        (m ((c : Thread nD τ).loc main_arg8) : Vec Ideal S3 .f32) (ix1 (chan l.val)),
        (m ((c : Thread nD τ).loc main_arg9) : Vec Ideal S3 .f32) (ix1 (chan l.val)),
        (m ((c : Thread nD τ).loc main_arg10) : Vec Ideal S3 .f32) (ix1 (chan l.val))] : Fin 7 → EReal) k := by
  rw [← pos_word (l.val / 3) (by omega)]
  unfold_abbrev_sides
  after_reads_simp
  show broadcastInDim S7x8x5760 ![0, 1, 2] bcast_S7x1x5760_S7x8x5760_0_1_2
      (broadcastInDim S7x1x5760 ![0, 2] bcast_S7x5760_S7x1x5760_0_2
        (concatenate S7x5760 0
          [⟨S1x5760, StableHlo.upto hostOps0 (fun b => m (c, b)) 40 (Proc.tc.devRef main_v31)⟩,
            ⟨S1x5760, StableHlo.upto hostOps0 (fun b => m (c, b)) 40 (Proc.tc.devRef main_v32)⟩,
            ⟨S1x5760, StableHlo.upto hostOps0 (fun b => m (c, b)) 40 (Proc.tc.devRef main_v33)⟩,
            ⟨S1x5760, StableHlo.upto hostOps0 (fun b => m (c, b)) 40 (Proc.tc.devRef main_v34)⟩,
            ⟨S1x5760, StableHlo.upto hostOps0 (fun b => m (c, b)) 40 (Proc.tc.devRef main_v35)⟩,
            ⟨S1x5760, StableHlo.upto hostOps0 (fun b => m (c, b)) 40 (Proc.tc.devRef main_v36)⟩,
            ⟨S1x5760, StableHlo.upto hostOps0 (fun b => m (c, b)) 40 (Proc.tc.devRef main_v37)⟩]
          concatenates_S1x5760_S1x5760_S1x5760_S1x5760_S1x5760_S1x5760_S1x5760_S7x5760_d0)) _ = _
  after_reads_simp
  clean_types
  pointwise
  after_reads_simp
  clean_types
  pointwise
  fin_cases k <;> rfl

/-- The three scalars. -/
theorem scal_apply (k : Fin 3) : (V m c main_v45 : Vec Ideal S3 .f32) (ix1 k)
    = if k = 0 then (m ((c : Thread nD τ).loc main_arg4) : Vec Ideal S_ .f32) ix0
      else if k = 1 then (m ((c : Thread nD τ).loc main_arg5) : Vec Ideal S_ .f32) ix0
      else Ideal.div 1 ((m ((c : Thread nD τ).loc main_arg11) : Vec Ideal S_ .f32) ix0) := by
  unfold_abbrev_sides
  after_reads_simp
  show concatenate S3 0
      [⟨S1, StableHlo.upto hostOps0 (fun b => m (c, b)) 48 (Proc.tc.devRef main_v42)⟩,
        ⟨S1, StableHlo.upto hostOps0 (fun b => m (c, b)) 48 (Proc.tc.devRef main_v43)⟩,
        ⟨S1, StableHlo.upto hostOps0 (fun b => m (c, b)) 48 (Proc.tc.devRef main_v44)⟩]
      concatenates_S1_S1_S1_S3_d0 _ = _
  after_reads_simp
  clean_types
  pointwise
  fin_cases k <;> rfl

end Cert.Camera

end
-- ==== Proof.Array.lean ====
/- What the result array holds after the run, at an index: each block's stored value, its windows' blocks read as rows of
   the arrays that the host operations leave. -/
module

public import proofs.«01_k».proof.Proof.Host

@[expose] public section

noncomputable section

namespace Cert.Camera

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The windows' block indices at each grid point. -/
theorem idx0 : ∀ t : Fin cfg0.N, win0_0.index t (0 : Fin 1) = 0 := (by decide +kernel : ∀ t : Fin grid0.N, _)
/-- The parameters' window is the whole array at every step. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
/-- The image's main window is block t. -/
theorem idx2 : ∀ t : Fin cfg0.N, win0_2.index t (0 : Fin 2) = t.val ∧ win0_2.index t (1 : Fin 2) = 0 :=
  (by decide +kernel : ∀ t : Fin grid0.N, _)
/-- The image's upper window is the eight rows before block t, the first eight at the first block. -/
theorem idx3 : ∀ t : Fin cfg0.N, win0_3.index t (0 : Fin 2) = 9 * t.val - 1 ∧ win0_3.index t (1 : Fin 2) = 0 :=
  (by decide +kernel : ∀ t : Fin grid0.N, _)
/-- The image's lower window is the eight rows after block t, the last eight at the last block. -/
theorem idx4 : ∀ t : Fin cfg0.N, win0_4.index t (0 : Fin 2) = min (9 * t.val + 9) 134 ∧ win0_4.index t (1 : Fin 2) = 0 :=
  (by decide +kernel : ∀ t : Fin grid0.N, _)
/-- The sizes' main window is block t. -/
theorem idx5 : ∀ t : Fin cfg0.N, win0_5.index t (0 : Fin 2) = t.val ∧ win0_5.index t (1 : Fin 2) = 0 :=
  (by decide +kernel : ∀ t : Fin grid0.N, _)
/-- The sizes' upper window is the eight rows before block t. -/
theorem idx6 : ∀ t : Fin cfg0.N, win0_6.index t (0 : Fin 2) = 9 * t.val - 1 ∧ win0_6.index t (1 : Fin 2) = 0 :=
  (by decide +kernel : ∀ t : Fin grid0.N, _)
/-- The sizes' lower window is the eight rows after block t. -/
theorem idx7 : ∀ t : Fin cfg0.N, win0_7.index t (0 : Fin 2) = min (9 * t.val + 9) 134 ∧ win0_7.index t (1 : Fin 2) = 0 :=
  (by decide +kernel : ∀ t : Fin grid0.N, _)
/-- The noise's window is block t. -/
theorem idx8 : ∀ t : Fin cfg0.N, win0_8.index t (0 : Fin 2) = t.val ∧ win0_8.index t (1 : Fin 2) = 0 :=
  (by decide +kernel : ∀ t : Fin grid0.N, _)
/-- The result's window is block t. -/
theorem idx9 : ∀ t : Fin cfg0.N, win0_9.index t (0 : Fin 2) = t.val ∧ win0_9.index t (1 : Fin 2) = 0 :=
  (by decide +kernel : ∀ t : Fin grid0.N, _)

/-- The grid coordinate of a point is its number. -/
theorem coord0 : ∀ t : Fin cfg0.N, (grid0.coords t 0).val = t.val := (by decide +kernel : ∀ t : Fin grid0.N, _)

/-- Every point writes its block back. -/
theorem flush9 : ∀ t : Fin cfg0.N, (cfg0.win 9).flush t = true := (by decide +kernel : ∀ t : Fin grid0.N, win0_9.flush t = true)

/-- The grid has 15 steps. -/
theorem N_15 : cfg0.N = 15 := N_0

/-- A grid point as a block number. -/
def blk (t : Fin cfg0.N) : Fin 15 := ⟨t.val, lt_of_lt_of_eq t.isLt N_15⟩

/-- The scalars' block is the whole array. -/
theorem b0 (t : Fin cfg0.N) (k : Fin 3) : iblk m c 0 t (ix1 k) = (V m c main_v45 : Vec Ideal S3 .f32) (ix1 k) := by
  refine congrArg (V m c main_v45 : Vec Ideal S3 .f32) (funext fun a => Fin.ext ?_)
  have e0 := idx0 t
  match a with
  | ⟨0, _⟩ => show win0_0.index t (0 : Fin 1) * 3 + 1 * k.val = k.val; omega

/-- So is the parameters'. -/
theorem b1 (t : Fin cfg0.N) (k : Fin 7) (q : Fin 8) (l : Fin 5760) :
    plane (F := Ideal) (iblk m c 1 t) k (ix3 0 q l) = (V m c main_v40 : Vec Ideal S7x8x5760 .f32) (ix3 k q l) := by
  refine congrArg (V m c main_v40 : Vec Ideal S7x8x5760 .f32) (funext fun a => Fin.ext ?_)
  obtain ⟨e0, e1, e2⟩ := idx1 t
  match a with
  | ⟨0, _⟩ => show win0_1.index t (0 : Fin 3) * 7 + 1 * k.val = k.val; omega
  | ⟨1, _⟩ => show win0_1.index t (1 : Fin 3) * 8 + 1 * q.val = q.val; omega
  | ⟨2, _⟩ => show win0_1.index t (2 : Fin 3) * 5760 + 1 * l.val = l.val; omega

/-- The image's blocks are its rows. -/
theorem rowsI (A : Fin 1080 → Fin 5760 → EReal) (hA : ∀ y l, (V m c main_v0 : Vec Ideal S1080x5760 .f32) (ix2 y l) = A y l)
    (t : Fin cfg0.N) : Rows A (blk t) (iblk m c 3 t) (iblk m c 2 t) (iblk m c 4 t) where
  top q l y hy := by
    rw [← hA]
    refine congrArg (V m c main_v0 : Vec Ideal S1080x5760 .f32) (funext fun a => Fin.ext ?_)
    obtain ⟨e0, e1⟩ := idx3 t
    have hy : y.val + 8 = 72 * t.val + q.val := hy
    match a with
    | ⟨0, _⟩ => show win0_3.index t (0 : Fin 2) * 8 + 1 * q.val = y.val; omega
    | ⟨1, _⟩ => show win0_3.index t (1 : Fin 2) * 5760 + 1 * l.val = l.val; omega
  mid r l y hy := by
    rw [← hA]
    refine congrArg (V m c main_v0 : Vec Ideal S1080x5760 .f32) (funext fun a => Fin.ext ?_)
    obtain ⟨e0, e1⟩ := idx2 t
    have hy : y.val = 72 * t.val + r.val := hy
    match a with
    | ⟨0, _⟩ => show win0_2.index t (0 : Fin 2) * 72 + 1 * r.val = y.val; omega
    | ⟨1, _⟩ => show win0_2.index t (1 : Fin 2) * 5760 + 1 * l.val = l.val; omega
  bot q l y hy := by
    rw [← hA]
    refine congrArg (V m c main_v0 : Vec Ideal S1080x5760 .f32) (funext fun a => Fin.ext ?_)
    obtain ⟨e0, e1⟩ := idx4 t
    have hy : y.val = 72 * t.val + 72 + q.val := hy
    match a with
    | ⟨0, _⟩ => show win0_4.index t (0 : Fin 2) * 8 + 1 * q.val = y.val; omega
    | ⟨1, _⟩ => show win0_4.index t (1 : Fin 2) * 5760 + 1 * l.val = l.val; omega

/-- The kernel sizes' blocks are their rows. -/
theorem rowsK (A : Fin 1080 → Fin 5760 → EReal) (hA : ∀ y l, (V m c main_v4 : Vec Ideal S1080x5760 .f32) (ix2 y l) = A y l)
    (t : Fin cfg0.N) : Rows A (blk t) (iblk m c 6 t) (iblk m c 5 t) (iblk m c 7 t) where
  top q l y hy := by
    rw [← hA]
    refine congrArg (V m c main_v4 : Vec Ideal S1080x5760 .f32) (funext fun a => Fin.ext ?_)
    obtain ⟨e0, e1⟩ := idx6 t
    have hy : y.val + 8 = 72 * t.val + q.val := hy
    match a with
    | ⟨0, _⟩ => show win0_6.index t (0 : Fin 2) * 8 + 1 * q.val = y.val; omega
    | ⟨1, _⟩ => show win0_6.index t (1 : Fin 2) * 5760 + 1 * l.val = l.val; omega
  mid r l y hy := by
    rw [← hA]
    refine congrArg (V m c main_v4 : Vec Ideal S1080x5760 .f32) (funext fun a => Fin.ext ?_)
    obtain ⟨e0, e1⟩ := idx5 t
    have hy : y.val = 72 * t.val + r.val := hy
    match a with
    | ⟨0, _⟩ => show win0_5.index t (0 : Fin 2) * 72 + 1 * r.val = y.val; omega
    | ⟨1, _⟩ => show win0_5.index t (1 : Fin 2) * 5760 + 1 * l.val = l.val; omega
  bot q l y hy := by
    rw [← hA]
    refine congrArg (V m c main_v4 : Vec Ideal S1080x5760 .f32) (funext fun a => Fin.ext ?_)
    obtain ⟨e0, e1⟩ := idx7 t
    have hy : y.val = 72 * t.val + 72 + q.val := hy
    match a with
    | ⟨0, _⟩ => show win0_7.index t (0 : Fin 2) * 8 + 1 * q.val = y.val; omega
    | ⟨1, _⟩ => show win0_7.index t (1 : Fin 2) * 5760 + 1 * l.val = l.val; omega

/-- The noise's block is its rows. -/
theorem b8 (t : Fin cfg0.N) (r : Fin 72) (l : Fin 5760) (y : Fin 1080) (hy : y.val = 72 * t.val + r.val) :
    iblk m c 8 t (ix2 r l) = (V m c main_v1 : Vec Ideal S1080x5760 .f32) (ix2 y l) := by
  refine congrArg (V m c main_v1 : Vec Ideal S1080x5760 .f32) (funext fun a => Fin.ext ?_)
  obtain ⟨e0, e1⟩ := idx8 t
  match a with
  | ⟨0, _⟩ => show win0_8.index t (0 : Fin 2) * 72 + 1 * r.val = y.val; omega
  | ⟨1, _⟩ => show win0_8.index t (1 : Fin 2) * 5760 + 1 * l.val = l.val; omega

/-- The arguments as plain functions. -/
def argI (y : Fin 1080) (x : Fin 1920) (k : Fin 3) : EReal := (m ((c : Thread nD τ).loc main_arg0) : Vec Ideal S1080x1920x3 .f32) (ix3 y x k)
def argK (y : Fin 1080) (x : Fin 1920) : EReal :=
  ((((m ((c : Thread nD τ).loc main_arg1) : Vec Ideal S1080x1920 .i32) (ix2 y x) : BitVec 32).toInt : ℝ) : EReal)
def argN (y : Fin 1080) (x : Fin 1920) (k : Fin 3) : EReal := (m ((c : Thread nD τ).loc main_arg2) : Vec Ideal S1080x1920x3 .f32) (ix3 y x k)
def argQ (k : Fin 3) : EReal := (m ((c : Thread nD τ).loc main_arg3) : Vec Ideal S3 .f32) (ix1 k)
def argV : EReal := (m ((c : Thread nD τ).loc main_arg4) : Vec Ideal S_ .f32) ix0
def argA : EReal := (m ((c : Thread nD τ).loc main_arg5) : Vec Ideal S_ .f32) ix0
def argD (k : Fin 3) : EReal := (m ((c : Thread nD τ).loc main_arg6) : Vec Ideal S3 .f32) (ix1 k)
def argG (k : Fin 3) : EReal := (m ((c : Thread nD τ).loc main_arg7) : Vec Ideal S3 .f32) (ix1 k)
def argS (k : Fin 3) : EReal := (m ((c : Thread nD τ).loc main_arg8) : Vec Ideal S3 .f32) (ix1 k)
def argE (k : Fin 3) : EReal := (m ((c : Thread nD τ).loc main_arg9) : Vec Ideal S3 .f32) (ix1 k)
def argB (k : Fin 3) : EReal := (m ((c : Thread nD τ).loc main_arg10) : Vec Ideal S3 .f32) (ix1 k)
def argC : EReal := (m ((c : Thread nD τ).loc main_arg11) : Vec Ideal S_ .f32) ix0

/-- An array read through a block of the result's window. -/
theorem read9 (X : Vec Ideal S1080x5760 .f32) (t : Fin cfg0.N) (j : S72x5760.Idx) :
    ((cfg0.win 9).blk t).view.read (Elt Ideal) X j = X (((cfg0.win 9).blk t).view.emb j) := rfl

/-- A block of that window written back whole. -/
theorem cut9 (X : Vec Ideal S72x5760 .f32) (t : Fin cfg0.N) (j : S72x5760.Idx) : (cfg0.win 9).cut (grid0.coords t) X j = X j := rfl

/-- The result array after the run, at row `y`, lane `l`. -/
theorem array_apply (hv : 0 ≤ argV m c) (y : Fin 1080) (l : Fin 5760) :
    ((dats m 0 c).arrAt 9 cfg0.N : Vec Ideal S1080x5760 .f32) (ix2 y l)
      = readoutK (blur (elecs (argI m c) (argQ m c) (argV m c) (chan l.val)) (argK m c) (y.val : ℤ) ((l.val / 3 : ℕ) : ℤ) * argA m c)
          (argD m c (chan l.val)) (argG m c (chan l.val)) (argS m c (chan l.val)) (argE m c (chan l.val))
          (argB m c (chan l.val)) (Ideal.div 1 (argC m c)) (argN m c y (lcol l) (chan l.val)) := by
  have ht : y.val / 72 < cfg0.N := by rw [N_15]; omega
  have hr : y.val % 72 < 72 := by omega
  have hemb : ((cfg0.win 9).blk ⟨y.val / 72, ht⟩).view.emb (ix2 (⟨y.val % 72, hr⟩ : Fin 72) l) = ix2 y l := by
    obtain ⟨e0, e1⟩ := idx9 ⟨y.val / 72, ht⟩
    refine funext fun a => Fin.ext ?_
    match a with
    | ⟨0, _⟩ =>
      show win0_9.index ⟨y.val / 72, ht⟩ (0 : Fin 2) * 72 + 1 * (y.val % 72) = y.val
      rw [e0]
      show y.val / 72 * 72 + 1 * (y.val % 72) = y.val
      omega
    | ⟨1, _⟩ => show win0_9.index ⟨y.val / 72, ht⟩ (1 : Fin 2) * 5760 + 1 * l.val = l.val; omega
  have hb := congrFun (blocks9 m c ⟨y.val / 72, ht⟩ (flush9 _)) (ix2 (⟨y.val % 72, hr⟩ : Fin 72) l)
  rw [flushed9, outs_eq, cut9] at hb
  generalize (dats m 0 c).arrAt 9 cfg0.N = X at hb ⊢
  rw [read9, hemb] at hb
  rw [hb]
  refine (body_apply (grid0.coords ⟨y.val / 72, ht⟩) (blk ⟨y.val / 72, ht⟩) (coord0 _) _ _ _ ?_ (argI m c) (argQ m c) (argK m c)
    _ _ _ _ _ _ _ _ _ _ _ _ _ _ ?_ ?_
    (rowsI m c (fun y l => argI m c y (lcol l) (chan l.val)) (img_apply m c) ⟨y.val / 72, ht⟩)
    (rowsK m c (fun y l => argK m c y (lcol l)) (size_apply m c) ⟨y.val / 72, ht⟩) ⟨y.val % 72, hr⟩ l).trans ?_
  · rw [b0, scal_apply]; exact hv
  · intro q l; rw [b1, plane_apply]; rfl
  · intro q l; rw [b1, plane_apply]; rfl
  · rw [b0, b0, b0, scal_apply, scal_apply, scal_apply, b1, b1, b1, b1, b1, plane_apply, plane_apply, plane_apply, plane_apply,
      plane_apply, b8 m c _ _ _ y (show y.val = 72 * (y.val / 72) + y.val % 72 by omega), noise_apply]
    have hy : ((72 * (y.val / 72) : ℕ) : ℤ) + ((y.val % 72 : ℕ) : ℤ) = (y.val : ℤ) := by omega
    show readoutK (blur _ _ (((72 * (y.val / 72) : ℕ) : ℤ) + ((y.val % 72 : ℕ) : ℤ)) _ * _) _ _ _ _ _ _ _ = _
    rw [hy]
    rfl

end Cert.Camera

end
-- ==== Proof.Word.lean ====
/- Facts on the 32-bit words of the reference: an offset of −3 … 3, a pixel number moved by it and held inside the image,
   half a kernel size, and the truth of a comparison. -/
module

public import proofs.«01_k».proof.Proof.Spec
public import Idealize.ShloMosaic.Lib.WordCmp

@[expose] public section

noncomputable section

namespace Cert.Camera

open Idealize.ShloMosaic

/-- The word of offset number `a`: `a − 3`. -/
abbrev offw (a : ℕ) : BitVec 32 := IntOp.addi 4294967293#32 (BitVec.ofNat 32 a)

/-- An offset word as an integer. -/
theorem offw_toInt (a : Fin 7) : (offw a.val).toInt = (a.val : ℤ) - 3 := by
  revert a; decide +kernel

/-- The size of an offset word. -/
theorem offw_abs (a : Fin 7) : (IntOp.absi (offw a.val)).toInt = ((((a.val : ℤ) - 3).natAbs : ℕ) : ℤ) := by
  revert a; decide +kernel

/-- The squared distance of two offsets. -/
theorem offw_sq (a b : Fin 7) :
    (IntOp.addi (IntOp.muli (offw a.val) (offw a.val)) (IntOp.muli (offw b.val) (offw b.val))).toInt
      = ((((a.val : ℤ) - 3).natAbs * ((a.val : ℤ) - 3).natAbs + ((b.val : ℤ) - 3).natAbs * ((b.val : ℤ) - 3).natAbs : ℕ) : ℤ) := by
  revert a b; decide +kernel

/-- A pixel number moved by an offset. -/
theorem moved_toInt (n : ℕ) (hn : n < 1920) (a : Fin 7) :
    (IntOp.addi (BitVec.ofNat 32 n) (offw a.val)).toInt = (n : ℤ) + ((a.val : ℤ) - 3) := by
  have h1 : (BitVec.ofNat 32 n).toInt = n := WordCmp.toInt_ofNat_of_lt (by omega)
  show (BitVec.ofNat 32 n + offw a.val).toInt = _
  rw [BitVec.toInt_add, h1, offw_toInt]
  have := a.isLt
  exact Int.bmod_eq_of_le (by omega) (by omega)

/-- A word held between 0 and an upper bound. -/
theorem held_toInt (t : ℤ) (u v : BitVec 32) (hu : u.toInt = t) :
    (IntOp.minsi u (IntOp.maxsi 0#32 v)).toInt = min t (max 0 v.toInt) := by
  have h0 : (0#32).toInt = 0 := rfl
  have h1 : (IntOp.maxsi 0#32 v).toInt = max 0 v.toInt := by
    unfold IntOp.maxsi
    simp only [BitVec.slt, decide_eq_true_eq, h0]
    split_ifs <;> omega
  unfold IntOp.minsi
  simp only [BitVec.slt, decide_eq_true_eq, h1, hu]
  split_ifs <;> omega

/-- A wrap of negative indices leaves one that is not negative. -/
theorem wrap_toInt (v t : BitVec 32) (h : 0 ≤ v.toInt) :
    Scalar.select (IntOp.cmpi .slt v 0#32) t v = v := by
  rw [WordCmp.cmpi_slt_eq]
  have h0 : (0#32).toInt = 0 := rfl
  rw [h0, decide_eq_false (by omega)]
  rfl

/-- The sign of a word. -/
abbrev signw (s : BitVec 32) : BitVec 32 := if s = 0 then 0 else if s.msb then -1 else 1

/-- The word the reference computes for half a kernel size, rounded down. -/
abbrev halfw (s : BitVec 32) : BitVec 32 :=
  Scalar.select (IntOp.andi (IntOp.cmpi .ne (signw s) (signw 2#32)) (IntOp.cmpi .ne (IntOp.remsi .host s 2#32) 0#32))
    (IntOp.subi (IntOp.divsi .host s 2#32) 1#32) (IntOp.divsi .host s 2#32)

/-- Half of a kernel size between 0 and 7. -/
theorem halfw_toInt (n : Fin 8) : (halfw (BitVec.ofNat 32 n.val)).toInt = ((n.val / 2 : ℕ) : ℤ) := by
  have hd : IntOp.divsi .host (BitVec.ofNat 32 n.val) 2#32 = (BitVec.ofNat 32 n.val).sdiv 2#32 :=
    if_neg (by revert n; decide +kernel)
  have hr : IntOp.remsi .host (BitVec.ofNat 32 n.val) 2#32 = (BitVec.ofNat 32 n.val).srem 2#32 :=
    if_neg (by revert n; decide +kernel)
  unfold halfw
  rw [hd, hr]
  revert n; decide +kernel

/-- A word between 0 and 7 is the word of a natural number there. -/
theorem word_of_toInt (s : BitVec 32) (h0 : 0 ≤ s.toInt) (h7 : s.toInt ≤ 7) :
    ∃ n : Fin 8, s = BitVec.ofNat 32 n.val ∧ s.toInt = (n.val : ℤ) := by
  refine ⟨⟨s.toInt.toNat, by omega⟩, ?_, by simp; omega⟩
  apply BitVec.eq_of_toInt_eq
  rw [WordCmp.toInt_ofNat_of_lt (by simp; omega)]
  simp; omega

/-- A choice by the truth of a condition. -/
theorem select_ofBool {α : Type} (p : Bool) (x y : α) : Scalar.select (BitVec.ofBool p) x y = if p = true then x else y := by
  cases p <;> rfl

end Cert.Camera

end
-- ==== Proof.RefCell.lean ====
/- The reference's intermediate arrays at an index: the electrons, the kernel sizes, the moved pixel numbers, and what one
   source pixel adds at one offset. -/
module

public import proofs.«01_k».proof.Proof.Word
public import proofs.«01_k».proof.Proof.Gen.ReferenceIdeal.Run
public import Idealize.ShloMosaic.Lib.StableHlo.RunRead
public import Idealize.ShloMosaic.Lib.Tactic.CleanTypes

@[expose] public section

noncomputable section

namespace Cert.Camera

open Cert.ReferenceIdeal Cert.ReferenceIdeal.Gen Cert.ReferenceIdeal.Value Idealize.ShloMosaic Idealize.ShloMosaic.TcCoe Idealize.SL.Sem

variable (W : Valuation τ sig (Elt Ideal))

/-- The image. -/
def refI (y : Fin 1080) (x : Fin 1920) (c : Fin 3) : EReal := (W (Proc.devRef .tc main_arg0) : Vec Ideal S1080x1920x3 .f32) (ix3 y x c)
/-- The kernel sizes, as words. -/
def refS (y : Fin 1080) (x : Fin 1920) : BitVec 32 := (W (Proc.devRef .tc main_arg1) : Vec Ideal S1080x1920 .i32) (ix2 y x)
/-- The kernel sizes, as numbers. -/
def refK (y : Fin 1080) (x : Fin 1920) : EReal := (((refS W y x).toInt : ℝ) : EReal)
/-- The quantum efficiencies. -/
def refQ (c : Fin 3) : EReal := (W (Proc.devRef .tc main_arg3) : Vec Ideal S3 .f32) (ix1 c)
/-- The vignetting gain. -/
def refV : EReal := (W (Proc.devRef .tc main_arg4) : Vec Ideal S_ .f32) ix0
/-- The electrons. -/
def refE (c : Fin 3) (y : Fin 1080) (x : Fin 1920) : EReal := elec (refI W y x c) (refQ W c) (refV W) y.val x.val

/-- A pixel number read as a float. -/
theorem float_word (n : ℕ) (hn : n < 1920) : FloatOps.sitofp (F := Ideal) .f32 (BitVec.ofNat 32 n) = ((n : ℝ) : EReal) := by
  have h1 : (BitVec.ofNat 32 n).toInt = n := WordCmp.toInt_ofNat_of_lt (by omega)
  show (((((BitVec.ofNat 32 n).toInt : ℝ)) : EReal)) = _
  rw [h1]
  rfl

/-- The reference's electrons. -/
theorem v29_apply (y : Fin 1080) (x : Fin 1920) (c : Fin 3) :
    (res_main_v29 W : Vec Ideal S1080x1920x3 .f32) (ix3 y x c) = refE W c y x := by
  unfold res_main_v29 res_main_v23 res_main_v13 res_main_v15
  clean_types
  pointwise
  rw [float_word y.val (by omega), float_word x.val x.isLt]
  rfl

/-- The offsets, along the first axis. -/
theorem v33_apply (a : Fin 7) : (res_main_v33 W : IVec S7x1x1x1 32) (ix4 a 0 0 0) = offw a.val := by
  unfold res_main_v33
  clean_types
  pointwise

/-- The offsets, along the second axis. -/
theorem v37_apply (b : Fin 7) : (res_main_v37 W : IVec S1x7x1x1 32) (ix4 0 b 0 0) = offw b.val := by
  unfold res_main_v37
  clean_types
  pointwise

/-- The widths of the weights. -/
theorem v46_apply (y : Fin 1080) (x : Fin 1920) : (res_main_v46 W : Vec Ideal S1080x1920 .f32) (ix2 y x) = sdev (refK W y x) := by
  unfold res_main_v46
  clean_types
  pointwise
  rfl

/-- Half of the kernel sizes. -/
theorem v47_apply (y : Fin 1080) (x : Fin 1920) : (res_main_v47 W : IVec S1080x1920 32) (ix2 y x) = halfw (refS W y x) := by
  unfold res_main_v47 res_main_call0_v2 res_main_call0_v0
  simp only [id_eq]
  clean_types
  pointwise
  rfl

/-- Whether a kernel size is above one. -/
theorem v49_apply (y : Fin 1080) (x : Fin 1920) : (res_main_v49 W : IVec S1080x1920 1) (ix2 y x) = IntOp.cmpi .sgt (refS W y x) 1#32 := by
  unfold res_main_v49
  clean_types
  pointwise
  rfl

/-- The moved rows. -/
theorem v63_apply (a : Fin 7) (y : Fin 1080) :
    (res_main_v63 W : IVec S7x1x1080x1 32) (ix4 a 0 y 0) = IntOp.addi (BitVec.ofNat 32 y.val) (offw a.val) := by
  unfold res_main_v63 res_main_v33
  clean_types
  pointwise

/-- The moved columns. -/
theorem v66_apply (b : Fin 7) (x : Fin 1920) :
    (res_main_v66 W : IVec S1x7x1x1920 32) (ix4 0 b 0 x) = IntOp.addi (BitVec.ofNat 32 x.val) (offw b.val) := by
  unfold res_main_v66 res_main_v37
  clean_types
  pointwise

/-- The moved rows, held inside the image. -/
theorem v117_apply (a b : Fin 7) (y : Fin 1080) (x : Fin 1920) :
    ((res_main_v117 W : IVec S7x7x1080x1920 32) (ix4 a b y x)).toInt = min 1079 (max 0 ((y.val : ℤ) + ((a.val : ℤ) - 3))) := by
  rw [← moved_toInt y.val (by omega) a, ← held_toInt 1079 1079#32 _ rfl]
  congr 1

/-- The moved columns, held inside the image. -/
theorem v118_apply (a b : Fin 7) (y : Fin 1080) (x : Fin 1920) :
    ((res_main_v118 W : IVec S7x7x1080x1920 32) (ix4 a b y x)).toInt = min 1919 (max 0 ((x.val : ℤ) + ((b.val : ℤ) - 3))) := by
  rw [← moved_toInt x.val x.isLt b, ← held_toInt 1919 1919#32 _ rfl]
  congr 1

/-- The distance of an offset. -/
abbrev dist (a : Fin 7) : ℕ := ((a.val : ℤ) - 3).natAbs

/-- The weight the reference gives a source pixel of kernel size `k` at distances `i`, `j`: the spread alone, without the source's own pixel. -/
def spread (i j : ℕ) (k : ℤ) : EReal :=
  if 1 < k ∧ (i : ℤ) ≤ k / 2 ∧ (j : ℤ) ≤ k / 2 then wRef (((i * i + j * j : ℕ) : ℝ) : EReal) ((k : ℝ) : EReal) else 0

/-- What a source pixel adds at an offset: nothing where the offset leaves the image. -/
theorem weight_apply (a b : Fin 7) (y : Fin 1080) (x : Fin 1920) (h7 : (refS W y x).toInt ≤ 7) :
    Scalar.select
        (IntOp.andi (IntOp.andi (IntOp.andi (IntOp.andi (IntOp.andi (IntOp.andi (IntOp.cmpi .sgt (refS W y x) 1#32)
          (IntOp.cmpi .sle (IntOp.absi (offw a.val)) (halfw (refS W y x))))
          (IntOp.cmpi .sle (IntOp.absi (offw b.val)) (halfw (refS W y x))))
          (IntOp.cmpi .sge (IntOp.addi (BitVec.ofNat 32 y.val) (offw a.val)) 0#32))
          (IntOp.cmpi .slt (IntOp.addi (BitVec.ofNat 32 y.val) (offw a.val)) 1080#32))
          (IntOp.cmpi .sge (IntOp.addi (BitVec.ofNat 32 x.val) (offw b.val)) 0#32))
          (IntOp.cmpi .slt (IntOp.addi (BitVec.ofNat 32 x.val) (offw b.val)) 1920#32))
        (wRef (((dist a * dist a + dist b * dist b : ℕ) : ℝ) : EReal) (refK W y x)) 0
      = if (0 ≤ (y.val : ℤ) + ((a.val : ℤ) - 3) ∧ (y.val : ℤ) + ((a.val : ℤ) - 3) < 1080)
            ∧ (0 ≤ (x.val : ℤ) + ((b.val : ℤ) - 3) ∧ (x.val : ℤ) + ((b.val : ℤ) - 3) < 1920) then
          spread (dist a) (dist b) (refS W y x).toInt else 0 := by
  have e0 : (0#32).toInt = 0 := rfl
  have e1 : (1#32).toInt = 1 := rfl
  have e2 : (1080#32).toInt = 1080 := rfl
  have e3 : (1920#32).toInt = 1920 := rfl
  simp only [WordCmp.cmpi_sgt_eq, WordCmp.cmpi_sle_eq, WordCmp.cmpi_sge_eq, WordCmp.cmpi_slt_eq, WordCmp.andi_ofBool, select_ofBool,
    moved_toInt y.val (by omega), moved_toInt x.val x.isLt, offw_abs, e0, e1, e2, e3, Bool.and_eq_true, decide_eq_true_eq]
  unfold spread refK
  by_cases h1 : 1 < (refS W y x).toInt
  · obtain ⟨n, hn, hm⟩ := word_of_toInt (refS W y x) (by omega) h7
    have hh : (halfw (refS W y x)).toInt = (refS W y x).toInt / 2 := by
      rw [hm, hn, halfw_toInt]; norm_cast
    rw [hh]
    generalize (refS W y x).toInt = k at *
    rw [← ite_and]
    refine if_congr ?_ rfl rfl
    tauto
  · rw [if_neg (c := 1 < _ ∧ _) (fun h => h1 h.1), ite_self]
    exact if_neg fun h => h1 h.1.1.1.1.1.1

end Cert.Camera

end
-- ==== Proof.RefSum.lean ====
/- The reference's scatter at an index: where an update lands, and the sum of what lands there. -/
module

public import proofs.«01_k».proof.Proof.RefCell
public import Idealize.ShloMosaic.Lib.Routing.OpsPair

@[expose] public section

noncomputable section

namespace Cert.Camera

open Cert.ReferenceIdeal Cert.ReferenceIdeal.Gen Cert.ReferenceIdeal.Value Idealize.ShloMosaic Idealize.ShloMosaic.TcCoe Idealize.SL.Sem

/-- The reference's scatter. -/
abbrev scat := scatter_S1080x1920x3_S7x7x1080x1920x2_S7x7x1080x1920x3_4_01_01_4

/-- An update lands at the row and the column its two index words name, in its own channel. -/
theorem lands (a b : Fin 7) (y' y : Fin 1080) (x' x : Fin 1920) (c' c : Fin 3) (idx : IVec S7x7x1080x1920x2 32) :
    scat.resultIdx? (ix5 a b y' x' c') idx = some (ix3 y x c)
      ↔ (idx (ix5 a b y' x' 0)).toInt = y.val ∧ (idx (ix5 a b y' x' 1)).toInt = x.val ∧ c' = c := by
  have h0 : scat.siIdx (ix5 a b y' x' c') ⟨0, by decide⟩ = ix5 a b y' x' 0 := by
    funext i
    fin_cases i <;> rfl
  have h1 : scat.siIdx (ix5 a b y' x' c') ⟨1, by decide⟩ = ix5 a b y' x' 1 := by
    funext i
    fin_cases i <;> rfl
  have s0 : scat.start (ix5 a b y' x' c') idx 0 = (idx (ix5 a b y' x' 0)).toInt := by
    rw [← h0]; rfl
  have s1 : scat.start (ix5 a b y' x' c') idx 1 = (idx (ix5 a b y' x' 1)).toInt := by
    rw [← h1]; rfl
  have s2 : scat.start (ix5 a b y' x' c') idx 2 = 0 := rfl
  have w0 : scat.window (ix5 a b y' x' c') 0 = 0 := rfl
  have w1 : scat.window (ix5 a b y' x' c') 1 = 0 := rfl
  have w2 : scat.window (ix5 a b y' x' c') 2 = c'.val := rfl
  rw [Routing.resultIdx?_eq_some]
  constructor
  · intro h
    have e0 := h 0
    have e1 := h 1
    have e2 := h 2
    rw [s0, w0] at e0
    rw [s1, w1] at e1
    rw [s2, w2] at e2
    refine ⟨by simpa using e0, by simpa using e1, Fin.ext ?_⟩
    have : ((c'.val : ℕ) : ℤ) = c.val := by simpa using e2
    exact_mod_cast this
  · rintro ⟨e0, e1, rfl⟩ i
    fin_cases i
    · show scat.start _ _ 0 + ((scat.window _ 0 : ℕ) : ℤ) = _
      rw [s0, w0, e0]; simp
    · show scat.start _ _ 1 + ((scat.window _ 1 : ℕ) : ℤ) = _
      rw [s1, w1, e1]; simp
    · show scat.start _ _ 2 + ((scat.window _ 2 : ℕ) : ℤ) = _
      rw [s2, w2]; simp

/-- What the pixel at `(y, x)` of the plane spreads to distances `i`, `j`: nothing outside the image. -/
def given (e : Fin 1080 → Fin 1920 → EReal) (k : Fin 1080 → Fin 1920 → ℤ) (i j : ℕ) (y x : ℤ) : EReal :=
  if h : (0 ≤ y ∧ y < 1080) ∧ (0 ≤ x ∧ x < 1920) then
    e ⟨y.toNat, by omega⟩ ⟨x.toNat, by omega⟩ * spread i j (k ⟨y.toNat, by omega⟩ ⟨x.toNat, by omega⟩)
  else 0

/-- Of the pixels moved by one offset, only one lands at `(y, x)` with anything: the one that many rows and columns back. -/
theorem sum_landed (e : Fin 1080 → Fin 1920 → EReal) (k : Fin 1080 → Fin 1920 → ℤ) (i j : ℕ) (dy dx : ℤ) (y : Fin 1080) (x : Fin 1920) (c : Fin 3) :
    (∑ y' : Fin 1080, ∑ x' : Fin 1920, ∑ c' : Fin 3,
      if min 1079 (max 0 ((y'.val : ℤ) + dy)) = y.val ∧ min 1919 (max 0 ((x'.val : ℤ) + dx)) = x.val ∧ c' = c then
        e y' x' * (if (0 ≤ (y'.val : ℤ) + dy ∧ (y'.val : ℤ) + dy < 1080) ∧ (0 ≤ (x'.val : ℤ) + dx ∧ (x'.val : ℤ) + dx < 1920) then
          spread i j (k y' x') else 0) else 0)
      = given e k i j ((y.val : ℤ) - dy) ((x.val : ℤ) - dx) := by
  have hc : ∀ (y' : Fin 1080) (x' : Fin 1920), (∑ c' : Fin 3,
      if min 1079 (max 0 ((y'.val : ℤ) + dy)) = y.val ∧ min 1919 (max 0 ((x'.val : ℤ) + dx)) = x.val ∧ c' = c then
        e y' x' * (if (0 ≤ (y'.val : ℤ) + dy ∧ (y'.val : ℤ) + dy < 1080) ∧ (0 ≤ (x'.val : ℤ) + dx ∧ (x'.val : ℤ) + dx < 1920) then
          spread i j (k y' x') else 0) else 0)
      = if (y'.val : ℤ) + dy = y.val ∧ (x'.val : ℤ) + dx = x.val then e y' x' * spread i j (k y' x') else 0 := by
    intro y' x'
    rw [Finset.sum_eq_single c (fun c' _ hn => if_neg fun h => hn h.2.2) (fun h => absurd (Finset.mem_univ c) h)]
    have := y.isLt
    have := x.isLt
    by_cases h : (y'.val : ℤ) + dy = y.val ∧ (x'.val : ℤ) + dx = x.val
    · rw [if_pos h, if_pos ⟨by omega, by omega, rfl⟩, if_pos ⟨by omega, by omega⟩]
    · rw [if_neg h]
      split_ifs with h1 h2
      · exact absurd ⟨by omega, by omega⟩ h
      · exact mul_zero _
      · rfl
  simp only [hc]
  unfold given
  split_ifs with h
  · rw [Finset.sum_eq_single ⟨((y.val : ℤ) - dy).toNat, by omega⟩ ?_ (fun h => absurd (Finset.mem_univ _) h),
      Finset.sum_eq_single ⟨((x.val : ℤ) - dx).toNat, by omega⟩ ?_ (fun h => absurd (Finset.mem_univ _) h), if_pos ?_]
    · constructor <;> simp only <;> omega
    · intro x' _ hn
      refine if_neg fun hh => hn (Fin.ext ?_)
      simp only; omega
    · intro y' _ hn
      refine Finset.sum_eq_zero fun x' _ => if_neg fun hh => hn (Fin.ext ?_)
      simp only; omega
  · refine Finset.sum_eq_zero fun y' _ => Finset.sum_eq_zero fun x' _ => if_neg fun hh => h ?_
    have := y'.isLt
    have := x'.isLt
    omega

/-- A scatter of spread pixels over the 7 × 7 offsets, at an index: what each offset's source gives. -/
theorem scatter_sum (e : Fin 3 → Fin 1080 → Fin 1920 → EReal) (k : Fin 1080 → Fin 1920 → ℤ) (z : Vec Ideal S1080x1920x3 .f32)
    (idx : IVec S7x7x1080x1920x2 32) (upd : Vec Ideal S7x7x1080x1920x3 .f32)
    (hi0 : ∀ a b y x, (idx (ix5 a b y x 0)).toInt = min 1079 (max 0 ((y.val : ℤ) + ((a.val : ℤ) - 3))))
    (hi1 : ∀ a b y x, (idx (ix5 a b y x 1)).toInt = min 1919 (max 0 ((x.val : ℤ) + ((b.val : ℤ) - 3))))
    (hu : ∀ a b y x c, upd (ix5 a b y x c) = e c y x
      * (if (0 ≤ (y.val : ℤ) + ((a.val : ℤ) - 3) ∧ (y.val : ℤ) + ((a.val : ℤ) - 3) < 1080)
            ∧ (0 ≤ (x.val : ℤ) + ((b.val : ℤ) - 3) ∧ (x.val : ℤ) + ((b.val : ℤ) - 3) < 1920) then
          spread (dist a) (dist b) (k y x) else 0))
    (y : Fin 1080) (x : Fin 1920) (c : Fin 3) (hz : z (ix3 y x c) = 0) :
    Host.scatterAdd (F := Ideal) (φ := .f32) scat z idx upd (ix3 y x c)
      = ∑ a : Fin 7, ∑ b : Fin 7, given (e c) k (dist a) (dist b) ((y.val : ℤ) - ((a.val : ℤ) - 3)) ((x.val : ℤ) - ((b.val : ℤ) - 3)) := by
  show Ideal.hostScatterAdd scat z idx upd (ix3 y x c) = _
  unfold Ideal.hostScatterAdd
  rw [hz, zero_add, Finset.sum_filter]
  rw [sum_idx5 (n0 := 7) (n1 := 7) (n2 := 1080) (n3 := 1920) (n4 := 3)]
  refine Finset.sum_congr rfl fun a _ => Finset.sum_congr rfl fun b _ => ?_
  rw [← sum_landed (e c) k (dist a) (dist b) ((a.val : ℤ) - 3) ((b.val : ℤ) - 3) y x c]
  refine Finset.sum_congr rfl fun y' _ => Finset.sum_congr rfl fun x' _ => Finset.sum_congr rfl fun c' _ => ?_
  have hl := lands a b y' y x' x c' c idx
  rw [hi0, hi1] at hl
  by_cases h : min 1079 (max 0 ((y'.val : ℤ) + ((a.val : ℤ) - 3))) = y.val ∧ min 1919 (max 0 ((x'.val : ℤ) + ((b.val : ℤ) - 3))) = x.val ∧ c' = c
  · rw [if_pos h, if_pos (hl.2 h), hu, h.2.2]
  · rw [if_neg h, if_neg fun q => h (hl.1 q)]

end Cert.Camera

end
-- ==== Proof.Reference.lean ====
/- What the reference computes at an index: the scatter and the source pixels that keep their light are together the blur, and
   the result is its read-out. -/
module

public import proofs.«01_k».proof.Proof.RefSum

@[expose] public section

noncomputable section

namespace Cert.Camera

open Cert.ReferenceIdeal Cert.ReferenceIdeal.Gen Cert.ReferenceIdeal.Value Idealize.ShloMosaic Idealize.ShloMosaic.TcCoe Idealize.SL.Sem

/-- What a pixel of kernel size `k` keeps of its own light beside the spread: all of it for a size of at most one. -/
def kept (k : ℤ) : EReal := if 1 < k then 0 else 1

/-- The product of the two weights is the spread, and for the pixel itself what it keeps. -/
theorem mg_split (i j : ℕ) (e : EReal) (k : ℤ) (h7 : k ≤ 7) :
    mg i j e ((k : ℝ) : EReal) = e * spread i j k + (if i = 0 ∧ j = 0 then e * kept k else 0) := by
  unfold mg spread kept
  by_cases h1 : 1 < k
  · obtain ⟨n, rfl⟩ := Int.eq_ofNat_of_zero_le (show 0 ≤ k by omega)
    have hc : (((n : ℤ) : ℝ) : EReal) = ((n : ℝ) : EReal) := by norm_cast
    rw [hc, gsel_mul i j n (by omega) (by omega), if_pos h1, mul_zero, ite_self, add_zero]
    congr 1
    refine if_congr ?_ rfl rfl
    omega
  · rw [gsel_low i k (by omega), gsel_low j k (by omega), if_neg h1, if_neg (c := 1 < k ∧ _) (fun h => h1 h.1), mul_zero,
      zero_add, mul_one]
    by_cases hi : i = 0 <;> by_cases hj : j = 0 <;> simp [hi, hj]

/-- The pixel at `(y, x)` of the plane where it is the target itself, with what it keeps. -/
def own (e : Fin 1080 → Fin 1920 → EReal) (k : Fin 1080 → Fin 1920 → ℤ) (i j : ℕ) (y x : ℤ) : EReal :=
  if h : (0 ≤ y ∧ y < 1080) ∧ (0 ≤ x ∧ x < 1920) then
    if i = 0 ∧ j = 0 then e ⟨y.toNat, by omega⟩ ⟨x.toNat, by omega⟩ * kept (k ⟨y.toNat, by omega⟩ ⟨x.toNat, by omega⟩) else 0
  else 0

/-- The blur's term at the plane, split the same way. -/
theorem mz_split (e : Fin 1080 → Fin 1920 → EReal) (k : Fin 1080 → Fin 1920 → ℤ) (h7 : ∀ y x, k y x ≤ 7) (i j : ℕ) (y x : ℤ) :
    mz e (fun y x => ((k y x : ℝ) : EReal)) i j y x = given e k i j y x + own e k i j y x := by
  unfold mz given own
  split_ifs with h h0
  · rw [mg_split _ _ _ _ (h7 _ _), if_pos h0]
  · rw [mg_split _ _ _ _ (h7 _ _), if_neg h0]
  · rw [add_zero]

/-- The distance of an offset is zero at the middle one only. -/
theorem dist_eq_zero (a : Fin 7) : dist a = 0 ↔ a = 3 := by
  unfold dist
  constructor
  · intro h
    have : a.val = 3 := by omega
    exact Fin.ext this
  · rintro rfl
    rfl

/-- Of the offsets only the middle one is the target itself. -/
theorem sum_own (e : Fin 1080 → Fin 1920 → EReal) (k : Fin 1080 → Fin 1920 → ℤ) (y : Fin 1080) (x : Fin 1920) :
    (∑ b : Fin 7, ∑ a : Fin 7, own e k (dist a) (dist b) ((y.val : ℤ) + ((a.val : ℤ) - 3)) ((x.val : ℤ) + ((b.val : ℤ) - 3)))
      = e y x * kept (k y x) := by
  have hz : ∀ (a b : Fin 7) (y x : ℤ), ¬(a = 3 ∧ b = 3) → own e k (dist a) (dist b) y x = 0 := by
    intro a b y x h
    unfold own
    split_ifs with h1 h2
    · exact absurd ⟨(dist_eq_zero a).1 h2.1, (dist_eq_zero b).1 h2.2⟩ h
    · rfl
    · rfl
  rw [Finset.sum_eq_single 3 ?_ (fun h => absurd (Finset.mem_univ _) h), Finset.sum_eq_single 3 ?_ (fun h => absurd (Finset.mem_univ _) h)]
  · have hy : (y.val : ℤ) + (((3 : Fin 7).val : ℤ) - 3) = y.val := by simp
    have hx : (x.val : ℤ) + (((3 : Fin 7).val : ℤ) - 3) = x.val := by simp
    rw [hy, hx]
    unfold own
    have := y.isLt
    have := x.isLt
    rw [dif_pos ⟨⟨by omega, by omega⟩, ⟨by omega, by omega⟩⟩, if_pos ⟨rfl, rfl⟩]
    rfl
  · exact fun a _ hn => hz _ _ _ _ fun h => hn h.1
  · exact fun b _ hn => Finset.sum_eq_zero fun a _ => hz _ _ _ _ fun h => hn h.2

/-- What each offset's source gives, and what the target keeps, is the blur. -/
theorem blur_split (e : Fin 1080 → Fin 1920 → EReal) (k : Fin 1080 → Fin 1920 → ℤ) (h7 : ∀ y x, k y x ≤ 7) (y : Fin 1080) (x : Fin 1920) :
    (∑ a : Fin 7, ∑ b : Fin 7, given e k (dist a) (dist b) ((y.val : ℤ) - ((a.val : ℤ) - 3)) ((x.val : ℤ) - ((b.val : ℤ) - 3)))
        + e y x * kept (k y x)
      = blur e (fun y x => ((k y x : ℝ) : EReal)) y.val x.val := by
  have hd : ∀ a : Fin 7, dist (Fin.rev a) = dist a := by decide
  have hr : ∀ (a : Fin 7) (y : ℤ), y - (((Fin.rev a).val : ℤ) - 3) = y + ((a.val : ℤ) - 3) := by
    intro a y
    have := a.isLt
    rw [Fin.val_rev]
    omega
  rw [← Equiv.sum_comp Fin.revPerm]
  have hb : ∀ a : Fin 7, (∑ b : Fin 7, given e k (dist (Fin.revPerm a)) (dist b) ((y.val : ℤ) - (((Fin.revPerm a).val : ℤ) - 3)) ((x.val : ℤ) - ((b.val : ℤ) - 3)))
      = ∑ b : Fin 7, given e k (dist a) (dist b) ((y.val : ℤ) + ((a.val : ℤ) - 3)) ((x.val : ℤ) + ((b.val : ℤ) - 3)) := by
    intro a
    rw [← Equiv.sum_comp Fin.revPerm]
    simp only [Fin.revPerm_apply, hd, hr]
  rw [Finset.sum_congr rfl fun a _ => hb a, Finset.sum_comm, ← sum_own e k y x, ← Finset.sum_add_distrib]
  refine Finset.sum_congr rfl fun b _ => ?_
  rw [← Finset.sum_add_distrib]
  exact Finset.sum_congr rfl fun a _ => (mz_split e k h7 _ _ _ _).symm

variable (W : Valuation τ sig (Elt Ideal))

/-- The reference's scatter, at an index. -/
theorem v138_apply (h7 : ∀ y x, (refS W y x).toInt ≤ 7) (y : Fin 1080) (x : Fin 1920) (c : Fin 3) :
    (res_main_v138 W : Vec Ideal S1080x1920x3 .f32) (ix3 y x c)
      = ∑ a : Fin 7, ∑ b : Fin 7, given (refE W c) (fun y x => (refS W y x).toInt) (dist a) (dist b)
          ((y.val : ℤ) - ((a.val : ℤ) - 3)) ((x.val : ℤ) - ((b.val : ℤ) - 3)) := by
  unfold res_main_v138
  simp only [id_eq]
  generalize hupd : mulf (F := Ideal) (s := S7x7x1080x1920x3) (φ := .f32) _ _ = upd
  have hu : ∀ a b y x c, upd (ix5 a b y x c) = refE W c y x
      * (if (0 ≤ (y.val : ℤ) + ((a.val : ℤ) - 3) ∧ (y.val : ℤ) + ((a.val : ℤ) - 3) < 1080)
            ∧ (0 ≤ (x.val : ℤ) + ((b.val : ℤ) - 3) ∧ (x.val : ℤ) + ((b.val : ℤ) - 3) < 1920) then
          spread (dist a) (dist b) (refS W y x).toInt else 0) := by
    intro a b y x c
    have hq : FloatOps.sitofp (F := Ideal) .f32 (IntOp.addi (IntOp.muli (offw a.val) (offw a.val)) (IntOp.muli (offw b.val) (offw b.val)))
        = (((dist a * dist a + dist b * dist b : ℕ) : ℝ) : EReal) := by
      show (((IntOp.addi (IntOp.muli (offw a.val) (offw a.val)) (IntOp.muli (offw b.val) (offw b.val))).toInt : ℝ) : EReal) = _
      rw [offw_sq]
      rfl
    rw [← hupd, ← weight_apply W a b y x (h7 y x)]
    clear hupd
    clean_types
    pointwise
    rw [v29_apply, v33_apply, v37_apply, v46_apply, v47_apply, v49_apply, v63_apply, v66_apply, hq]
    rfl
  clear hupd
  generalize hidx : concatenate S7x7x1080x1920x2 4 _ _ = idx
  have hi0 : ∀ a b y x, (idx (ix5 a b y x 0)).toInt = min 1079 (max 0 ((y.val : ℤ) + ((a.val : ℤ) - 3))) := by
    intro a b y x
    rw [← hidx, ← v117_apply W a b y x]
    clear hidx
    refine congrArg BitVec.toInt ?_
    clean_types
    pointwise
    exact wrap_toInt _ _ (by rw [v117_apply]; omega)
  have hi1 : ∀ a b y x, (idx (ix5 a b y x 1)).toInt = min 1919 (max 0 ((x.val : ℤ) + ((b.val : ℤ) - 3))) := by
    intro a b y x
    rw [← hidx, ← v118_apply W a b y x]
    clear hidx
    refine congrArg BitVec.toInt ?_
    clean_types
    pointwise
    exact wrap_toInt _ _ (by rw [v118_apply]; omega)
  clear hidx
  refine scatter_sum (refE W) (fun y x => (refS W y x).toInt) _ _ _ hi0 hi1 hu y x c ?_
  clean_types
  pointwise

/-- The reference's electrons behind the blur, aggregated. -/
theorem v146_apply (h7 : ∀ y x, (refS W y x).toInt ≤ 7) (y : Fin 1080) (x : Fin 1920) (c : Fin 3) :
    (res_main_v146 W : Vec Ideal S1080x1920x3 .f32) (ix3 y x c)
      = blur (refE W c) (refK W) y.val x.val * (W (Proc.devRef .tc main_arg5) : Vec Ideal S_ .f32) ix0 := by
  have hk : Scalar.select (IntOp.cmpi .sgt (refS W y x) 1#32) (0 : EReal) (refE W c y x)
      = refE W c y x * kept (refS W y x).toInt := by
    have e1 : (1#32).toInt = 1 := rfl
    rw [WordCmp.cmpi_sgt_eq, select_ofBool, e1]
    simp only [decide_eq_true_eq]
    unfold kept
    split_ifs
    · rw [mul_zero]
    · rw [mul_one]
  unfold res_main_v146
  simp only [id_eq]
  clean_types
  pointwise
  rw [v138_apply W h7, v29_apply, v49_apply, hk, blur_split (refE W c) _ h7 y x]
  rfl

end Cert.Camera

end
-- ==== Proof.RefOut.lean ====
/- The reference's result at an index: the read-out of its blurred electrons. -/
module

public import proofs.«01_k».proof.Proof.Reference

@[expose] public section

noncomputable section

namespace Cert.Camera

open Cert.ReferenceIdeal Cert.ReferenceIdeal.Gen Cert.ReferenceIdeal.Value Idealize.ShloMosaic Idealize.ShloMosaic.TcCoe Idealize.SL.Sem

variable (W : Valuation τ sig (Elt Ideal))

/-- The base of the read-out noise. -/
def refN (y : Fin 1080) (x : Fin 1920) (c : Fin 3) : EReal := (W (Proc.devRef .tc main_arg2) : Vec Ideal S1080x1920x3 .f32) (ix3 y x c)
/-- The aggregation gain. -/
def refA : EReal := (W (Proc.devRef .tc main_arg5) : Vec Ideal S_ .f32) ix0
/-- The dark currents. -/
def refD (c : Fin 3) : EReal := (W (Proc.devRef .tc main_arg6) : Vec Ideal S3 .f32) (ix1 c)
/-- The noise gains. -/
def refG (c : Fin 3) : EReal := (W (Proc.devRef .tc main_arg7) : Vec Ideal S3 .f32) (ix1 c)
/-- The deviations of the read-out noise. -/
def refR (c : Fin 3) : EReal := (W (Proc.devRef .tc main_arg8) : Vec Ideal S3 .f32) (ix1 c)
/-- The exposure gains. -/
def refX (c : Fin 3) : EReal := (W (Proc.devRef .tc main_arg9) : Vec Ideal S3 .f32) (ix1 c)
/-- The exposure biases. -/
def refB (c : Fin 3) : EReal := (W (Proc.devRef .tc main_arg10) : Vec Ideal S3 .f32) (ix1 c)
/-- The exponent of the response curve. -/
def refC : EReal := (W (Proc.devRef .tc main_arg11) : Vec Ideal S_ .f32) ix0

/-- The pixel of element `l` of a flattened row. -/
def pix (l : Fin 5760) : Fin 1920 := ⟨l.val / 3, by omega⟩
/-- Its channel. -/
def chn (l : Fin 5760) : Fin 3 := ⟨l.val % 3, by omega⟩

/-- The reference's result at row `y`, element `l`. -/
theorem out_apply (h7 : ∀ y x, (refS W y x).toInt ≤ 7) (y : Fin 1080) (l : Fin 5760) :
    (val4 W (Proc.devRef .tc main_v176) : Vec Ideal S1080x5760 .f32) (ix2 y l)
      = readout (blur (refE W (chn l)) (refK W) y.val (pix l).val * refA W) (refD W (chn l)) (refG W (chn l)) (refR W (chn l))
          (refX W (chn l)) (refB W (chn l)) (refC W) (refN W y (pix l) (chn l)) := by
  rw [val4_main_v176]
  simp only [id_eq]
  clean_types
  pointwise
  have h := v146_apply W h7 y ⟨l.val / 3, by omega⟩ ⟨l.val % 3, by omega⟩
  rw [h]
  rfl

end Cert.Camera

end
-- ==== Proof.Pre.lean ====
/- What the precondition says of the arguments: kernel sizes of at most 7, a vignetting gain that is not negative, and a finite
   image, quantum efficiencies and aggregation gain. -/
module

public import proofs.«01_k».proof.Pre_admissible
public import proofs.«01_k».proof.Proof.Consts
public import proofs.«01_k».proof.Proof.Elem
public import Idealize.ShloMosaic.Lib.Pointwise
public import Idealize.ShloMosaic.Lib.ReduceAll
public import Idealize.ShloMosaic.Lib.WordCmp

@[expose] public section

noncomputable section

namespace Cert.Camera

open Cert.Pre_admissible Idealize.ShloMosaic

/-- The shape relations of the precondition. -/
instance preFacts : Cert.Pre_admissible.Facts where
  bcast_S_S1080x1920 := by decide
  reducesTo_S1080x1920_S_d0_1 := by decide
  h_S_ := by decide
  bcast_S_S1080x1920x3 := by decide
  reducesTo_S1080x1920x3_S_d0_1_2 := by decide
  bcast_S_S3 := by decide
  reducesTo_S3_S_d0 := by decide

/-- Both halves of a conjunction of truth words. -/
theorem andi_one (p q : BitVec 1) (h : IntOp.andi p q = 1#1) : p = 1#1 ∧ q = 1#1 := by
  revert p q; decide

/-- A float comparison that holds. -/
theorem olt_one (x y : EReal) (h : FloatOps.cmpf (F := Ideal) (φ := .f32) .olt x y = 1#1) : x < y := by
  have h' : BitVec.ofBool (decide (x < y)) = 1#1 := h
  exact (WordCmp.ofBool_decide_eq_one_iff _).1 h'

/-- The same for a lower bound. -/
theorem oge_one (x y : EReal) (h : FloatOps.cmpf (F := Ideal) (φ := .f32) .oge x y = 1#1) : y ≤ x := by
  have h' : BitVec.ofBool (decide (y ≤ x)) = 1#1 := h
  exact (WordCmp.ofBool_decide_eq_one_iff _).1 h'

/-- The precondition, read back. -/
theorem pre_reads (a0 : FVec Ideal S1080x1920x3 .f32) (a1 : IVec S1080x1920 32) (a2 : FVec Ideal S1080x1920x3 .f32) (a3 : FVec Ideal S3 .f32)
    (a4 a5 : FVec Ideal S_ .f32) (a6 a7 a8 a9 a10 : FVec Ideal S3 .f32) (a11 : FVec Ideal S_ .f32)
    (h : Cert.Pre_admissible.fn (F := Ideal) a0 a1 a2 a3 a4 a5 a6 a7 a8 a9 a10 a11 = fun _ => 1#1) :
    (∀ y x, (a1 (ix2 y x)).toInt ≤ 7) ∧ 0 ≤ a4 ix0 ∧ (∀ y x c, ∃ r : ℝ, a0 (ix3 y x c) = r) ∧ (∀ c, ∃ r : ℝ, a3 (ix1 c) = r)
      ∧ ∃ r : ℝ, a5 ix0 = r := by
  have h0 := congrFun h ix0
  dsimp only [Cert.Pre_admissible.fn, Cert.Pre_admissible.fn_part1] at h0
  obtain ⟨h0, e5⟩ := andi_one _ _ h0
  obtain ⟨h0, e3⟩ := andi_one _ _ h0
  obtain ⟨h0, e0⟩ := andi_one _ _ h0
  obtain ⟨e1, e4⟩ := andi_one _ _ h0
  refine ⟨fun y x => ?_, ?_, fun y x c => ?_, fun c => ?_, ?_⟩
  · exact IntOp.cmpi_sle.1 (Host.reduce_andi_all _ _ _ _ _ e1 (ix2 y x))
  · have := oge_one _ _ e4
    have hz : (constant (F := Ideal) S_ .f32 0x00000000#32) ix0 = (0 : EReal) := by
      pointwise
    rw [hz] at this
    exact this
  · have := olt_one _ _ (Host.reduce_andi_all _ _ _ _ _ e0 (ix3 y x c))
    exact real_of_abs_lt _ (by rw [← c_top]; exact this)
  · have := olt_one _ _ (Host.reduce_andi_all _ _ _ _ _ e3 (ix1 c))
    exact real_of_abs_lt _ (by rw [← c_top]; exact this)
  · have := olt_one _ _ e5
    exact real_of_abs_lt _ (by rw [← c_top]; exact this)

end Cert.Camera

end
-- ==== Proof.Equation.lean ====
/- The equation: under the precondition the kernel's result array is the reference's. -/
module

public import proofs.«01_k».proof.Proof.Array
public import proofs.«01_k».proof.Proof.RefOut
public import proofs.«01_k».proof.Proof.Pre

@[expose] public section

noncomputable section

namespace Cert.Camera

open Idealize.ShloMosaic Idealize.ShloMosaic.TcCoe Idealize.SL.Sem

/-- The arguments of the two programs agree on device `c`. -/
structure Agree (m : (ℓ : Loc Cert.KernelIdeal.nD Cert.KernelIdeal.τ Cert.KernelIdeal.sig) → Buf (Elt Ideal) ℓ)
    (c : Dev Cert.KernelIdeal.nD) (W : Valuation Cert.ReferenceIdeal.τ Cert.ReferenceIdeal.sig (Elt Ideal)) : Prop where
  hI : argI m c = refI W
  hK : argK m c = refK W
  hN : argN m c = refN W
  hQ : argQ m c = refQ W
  hV : argV m c = refV W
  hA : argA m c = refA W
  hD : argD m c = refD W
  hG : argG m c = refG W
  hR : argS m c = refR W
  hX : argE m c = refX W
  hB : argB m c = refB W
  hC : argC m c = refC W

/-- Kernel and reference compute the same array. -/
theorem equation (m : (ℓ : Loc Cert.KernelIdeal.nD Cert.KernelIdeal.τ Cert.KernelIdeal.sig) → Buf (Elt Ideal) ℓ)
    (c : Dev Cert.KernelIdeal.nD) (W : Valuation Cert.ReferenceIdeal.τ Cert.ReferenceIdeal.sig (Elt Ideal)) (h : Agree m c W)
    (h7 : ∀ y x, (refS W y x).toInt ≤ 7) (hv : 0 ≤ refV W) (hi : ∀ y x k, ∃ r : ℝ, refI W y x k = r) (hq : ∀ k, ∃ r : ℝ, refQ W k = r)
    (ha : ∃ r : ℝ, refA W = r) :
    (Cert.ReferenceIdeal.Value.val4 W (Proc.devRef .tc Cert.ReferenceIdeal.main_v176) : Vec Ideal Cert.ReferenceIdeal.S1080x5760 .f32)
      = ((Cert.KernelIdeal.Gen.dats m 0 c).arrAt 9 Cert.KernelIdeal.cfg0.N : Vec Ideal Cert.KernelIdeal.S1080x5760 .f32) := by
  refine funext fun j => ?_
  obtain ⟨y, l, rfl⟩ : ∃ (y : Fin 1080) (l : Fin 5760), j = ix2 y l := ⟨j 0, j 1, eq_ix2 (n0 := 1080) (n1 := 5760) j⟩
  have hk := array_apply m c (by rw [h.hV]; exact hv) y l
  refine (out_apply W h7 y l).trans (Eq.trans ?_ hk.symm)
  rw [h.hI, h.hK, h.hN, h.hQ, h.hV, h.hA, h.hD, h.hG, h.hR, h.hX, h.hB, h.hC]
  obtain ⟨b, hb⟩ := blur_real (refE W (chn l)) (refK W) (fun y x => elec_real _ _ _ _ _ hv (hi _ _ _) (hq _)) y.val (pix l).val
  obtain ⟨a, ha⟩ := ha
  refine (readoutK_eq _ _ _ _ _ _ _ _ ?_).symm
  show blur (refE W (chn l)) (refK W) y.val (pix l).val * refA W ≠ ⊤
  rw [hb, ha, ← EReal.coe_mul]
  exact EReal.coe_ne_top _

end Cert.Camera

end
-- ==== Proof.lean ====
/- The certificate: the three programs run and leave their arguments, the named constants are what the kernel's literals stand
   for, and under the precondition kernel and reference compute the same array over the extended reals. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation

@[expose] public section

noncomputable section

namespace Cert.Proof

open Idealize.ShloMosaic Idealize.ShloMosaic.TcCoe Idealize.SL.Sem Idealize.ShloMosaic.StableHlo Cert.Camera

/-- The reference runs and leaves its arguments and its counters as they were. -/
theorem frame_reference : quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- The named constants. -/
theorem preserved : preserves_Kernel_KernelIdeal :=
  ⟨IdealRules.named_const.statement Cert.KernelIdeal.κ "inv_half_width" .f32 0x3A888889#32 ((1 / 960 : ℝ) : EReal) rfl,
   IdealRules.named_const.statement Cert.KernelIdeal.κ "norm7" .f32 0x3EAF1424#32 (((6 / 7) * (Real.sqrt (2 * Real.pi))⁻¹ : ℝ) : EReal) rfl,
   IdealRules.named_const.statement Cert.KernelIdeal.κ "norm6" .f32 0x3ECC422A#32 ((1 * (Real.sqrt (2 * Real.pi))⁻¹ : ℝ) : EReal) rfl,
   IdealRules.named_const.statement Cert.KernelIdeal.κ "norm5" .f32 0x3EF51C32#32 (((6 / 5) * (Real.sqrt (2 * Real.pi))⁻¹ : ℝ) : EReal) rfl,
   IdealRules.named_const.statement Cert.KernelIdeal.κ "norm4" .f32 0x3F19319F#32 (((3 / 2) * (Real.sqrt (2 * Real.pi))⁻¹ : ℝ) : EReal) rfl,
   IdealRules.named_const.statement Cert.KernelIdeal.κ "norm3" .f32 0x3F4C422A#32 ((2 * (Real.sqrt (2 * Real.pi))⁻¹ : ℝ) : EReal) rfl,
   IdealRules.named_const.statement Cert.KernelIdeal.κ "norm2" .f32 0x3F99319F#32 ((3 * (Real.sqrt (2 * Real.pi))⁻¹ : ℝ) : EReal) rfl,
   IdealRules.named_const.statement Cert.KernelIdeal.κ "expo7_1" .f32 0xBEBC14E6#32 ((-18 / 49 : ℝ) : EReal) rfl,
   IdealRules.named_const.statement Cert.KernelIdeal.κ "expo5_1" .f32 0xBF3851EC#32 ((-18 / 25 : ℝ) : EReal) rfl,
   IdealRules.named_const.statement Cert.KernelIdeal.κ "expo7_2" .f32 0xBFBC14E6#32 ((-72 / 49 : ℝ) : EReal) rfl,
   IdealRules.named_const.statement Cert.KernelIdeal.κ "expo5_2" .f32 0xC03851EC#32 ((-72 / 25 : ℝ) : EReal) rfl,
   IdealRules.named_const.statement Cert.KernelIdeal.κ "expo7_3" .f32 0xC0539783#32 ((-162 / 49 : ℝ) : EReal) rfl⟩

/-- Equal arguments and the precondition give the reference's composed term at its result the kernel's final array. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Pre_KernelIdeal_admissible (hPre_admissible := preFacts) m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (Cert.ReferenceIdeal.Value.val4 (launchContents m' c) (Proc.devRef .tc Cert.ReferenceIdeal.main_v176)
        : Vec Ideal Cert.ReferenceIdeal.S1080x5760 .f32)
      = (Cert.KernelIdeal.Gen.dats m 0 c).arrAt 9 Cert.KernelIdeal.cfg0.N := by
  obtain ⟨p7, pv, pi, pq, pa⟩ := pre_reads _ _ _ _ _ _ _ _ _ _ _ _ (hpre c)
  have hI : argI m c = refI (launchContents m' c) := funext fun y => funext fun x => funext fun k => (congrFun e0 (ix3 y x k)).symm
  have hS : ∀ y x, refS (launchContents m' c) y x
      = (m ((c.tc : Thread _ _).loc Cert.KernelIdeal.main_arg1) : Vec Ideal Cert.KernelIdeal.S1080x1920 .i32) (ix2 y x) :=
    fun y x => congrFun e1 (ix2 y x)
  have hK : argK m c = refK (launchContents m' c) := by
    funext y x
    unfold refK
    rw [hS]
    rfl
  have hQ : argQ m c = refQ (launchContents m' c) := funext fun k => (congrFun e3 (ix1 k)).symm
  have hV : argV m c = refV (launchContents m' c) := (congrFun e4 ix0).symm
  have hA : argA m c = refA (launchContents m' c) := (congrFun e5 ix0).symm
  refine equation m c (launchContents m' c) ⟨hI, hK, funext fun y => funext fun x => funext fun k => (congrFun e2 (ix3 y x k)).symm, hQ, hV, hA,
    funext fun k => (congrFun e6 (ix1 k)).symm, funext fun k => (congrFun e7 (ix1 k)).symm, funext fun k => (congrFun e8 (ix1 k)).symm,
    funext fun k => (congrFun e9 (ix1 k)).symm, funext fun k => (congrFun e10 (ix1 k)).symm, (congrFun e11 ix0).symm⟩ ?_ ?_ ?_ ?_ ?_
  · intro y x; rw [hS]; exact p7 y x
  · rw [← hV]; exact pv
  · rw [← hI]; exact pi
  · rw [← hQ]; exact pq
  · rw [← hA]; exact pa

/-- The value claim: equal results from equal arguments under the precondition. -/
theorem equal : algebraic_KernelIdeal_ReferenceIdeal_pre_admissible (hKernelIdeal := Cert.KernelIdeal.Gen.facts)
    (hReferenceIdeal := Cert.ReferenceIdeal.Gen.facts) (hPre_admissible := preFacts) := by
  intro m g m' g' hpre hargs
  refine ⟨fun c => (Cert.KernelIdeal.Gen.dats m 0 c).arrAt 9 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨e0, e1, e2, e3, e4, e5, e6, e7, e8, e9, e10, e11⟩ := hargs c
  exact (Cert.ReferenceIdeal.Value.val4_main_v176 (launchContents m' c)).symm.trans
    (values m m' c hpre e0 e1 e2 e3 e4 e5 e6 e7 e8 e9 e10 e11)

/-- Everything the certificate claims. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    frame_reference,
    fun m g _ => frame_reference m g trivial,
    preserved,
    equal⟩

end Cert.Proof

end
